-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v72) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x256 .bf16) (main_arg1 : FVec F S256x32 .bf16) (main_arg2 : IVec S512x2 32) (main_arg3 : FVec F S4x256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x32 .bf16 := Host.absf main_arg1
  let main_cst_0 : FVec F S_ .bf16 := constant S_ .bf16 0x7F80#16
  let main_v5 : FVec F S256x32 .bf16 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 32#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Pre_routable_ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x256 .bf16) (main_arg1 : FVec F S256x32 .bf16) (main_arg2 : IVec S512x2 32) (main_arg3 : FVec F S32x256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x32 .bf16 := Host.absf main_arg1
  let main_cst_0 : FVec F S_ .bf16 := constant S_ .bf16 0x7F80#16
  let main_v5 : FVec F S256x32 .bf16 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 32#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Kernel.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S512x512 : Shape := ⟨2, ![512, 512]⟩
abbrev S512x1024 : Shape := ⟨2, ![512, 1024]⟩
abbrev S8x64x512 : Shape := ⟨3, ![8, 64, 512]⟩
abbrev S8 : Shape := ⟨1, ![8]⟩
abbrev S_ : Shape := ⟨0, ![]⟩
abbrev S512x32 : Shape := ⟨2, ![512, 32]⟩
abbrev S512 : Shape := ⟨1, ![512]⟩
abbrev S512x1 : Shape := ⟨2, ![512, 1]⟩
abbrev S1024x512 : Shape := ⟨2, ![1024, 512]⟩
abbrev S64x1024 : Shape := ⟨2, ![64, 1024]⟩
abbrev S64x512 : Shape := ⟨2, ![64, 512]⟩
abbrev S1x64x512 : Shape := ⟨3, ![1, 64, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S4x256x512, .bf16⟩
  | .hbm, ⟨4, _⟩ => ⟨S512x512, .bf16⟩
  | .local _ .vmem, ⟨0, _⟩ => ⟨S512x256, .bf16⟩
  | .local _ .vmem, ⟨1, _⟩ => ⟨S256x32, .bf16⟩
  | .local _ .vmem, ⟨2, _⟩ => ⟨S512x2, .i32⟩
  | .local _ .vmem, ⟨3, _⟩ => ⟨S4x256x512, .bf16⟩
  | .local _ .vmem, ⟨4, _⟩ => ⟨S512x512, .bf16⟩
  | .local _ .vmem, ⟨5, _⟩ => ⟨S512x1024, .bf16⟩
  | .local _ .vmem, ⟨6, _⟩ => ⟨S8x64x512, .bf16⟩
  | .local _ .vmem, ⟨7, _⟩ => ⟨S8x64x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_53 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.addi v2 c1_i32_53
  let c8_i32_54 : BitVec 32 := 8#32
  let v127 : BitVec 32 := Scalar.remsi v126 c8_i32_54
  let c64_i32 : BitVec 32 := 64#32
  let v128 : BitVec 32 := Scalar.muli v127 c64_i32
  let v129 : Index := Scalar.indexCast v128
  let c0_55 : Index := 0#32
  ![v129.toNat, 0]
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v126 : BitVec 32 := Scalar.addi v2 c1_i32_53
  let c8_i32_54 : BitVec 32 := 8#32
  let v127 : BitVec 32 := Scalar.remsi v126 c8_i32_54
  let c1_i32_63 : BitVec 32 := 1#32
  let v136 : BitVec 32 := Scalar.muli v127 c1_i32_63
  let v137 : BitVec 32 := Scalar.addi c0_i32_64 v136
  v137.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_69 : BitVec 32 := 2#32
  let v146 : BitVec 32 := Scalar.addi v2 c2_i32_69
  let c8_i32_70 : BitVec 32 := 8#32
  let v147 : BitVec 32 := Scalar.remsi v146 c8_i32_70
  let c1_i32_80 : BitVec 32 := 1#32
  let v156 : BitVec 32 := Scalar.muli v147 c1_i32_80
  let v157 : BitVec 32 := Scalar.addi c0_i32_81 v156
  v157.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_86 : BitVec 32 := 3#32
  let v166 : BitVec 32 := Scalar.addi v2 c3_i32_86
  let c8_i32_87 : BitVec 32 := 8#32
  let v167 : BitVec 32 := Scalar.remsi v166 c8_i32_87
  let c1_i32_97 : BitVec 32 := 1#32
  let v176 : BitVec 32 := Scalar.muli v167 c1_i32_97
  let v177 : BitVec 32 := Scalar.addi c0_i32_98 v176
  v177.toNat
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_103 : BitVec 32 := 4#32
  let v186 : BitVec 32 := Scalar.addi v2 c4_i32_103
  let c8_i32_104 : BitVec 32 := 8#32
  let v187 : BitVec 32 := Scalar.remsi v186 c8_i32_104
  let c1_i32_114 : BitVec 32 := 1#32
  let v196 : BitVec 32 := Scalar.muli v187 c1_i32_114
  let v197 : BitVec 32 := Scalar.addi c0_i32_115 v196
  v197.toNat
def k0_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_120 : BitVec 32 := 5#32
  let v206 : BitVec 32 := Scalar.addi v2 c5_i32_120
  let c8_i32_121 : BitVec 32 := 8#32
  let v207 : BitVec 32 := Scalar.remsi v206 c8_i32_121
  let c1_i32_131 : BitVec 32 := 1#32
  let v216 : BitVec 32 := Scalar.muli v207 c1_i32_131
  let v217 : BitVec 32 := Scalar.addi c0_i32_132 v216
  v217.toNat
def k0_dev13 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_137 : BitVec 32 := 6#32
  let v226 : BitVec 32 := Scalar.addi v2 c6_i32_137
  let c8_i32_138 : BitVec 32 := 8#32
  let v227 : BitVec 32 := Scalar.remsi v226 c8_i32_138
  let c1_i32_148 : BitVec 32 := 1#32
  let v236 : BitVec 32 := Scalar.muli v227 c1_i32_148
  let v237 : BitVec 32 := Scalar.addi c0_i32_149 v236
  v237.toNat
def k0_dev14 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_154 : BitVec 32 := 7#32
  let v246 : BitVec 32 := Scalar.addi v2 c7_i32_154
  let c8_i32_155 : BitVec 32 := 8#32
  let v247 : BitVec 32 := Scalar.remsi v246 c8_i32_155
  let c1_i32_166 : BitVec 32 := 1#32
  let v256 : BitVec 32 := Scalar.muli v247 c1_i32_166
  let v257 : BitVec 32 := Scalar.addi c0_i32_167 v256
  v257.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_172 : BitVec 32 := 64#32
  let v266 : BitVec 32 := Scalar.muli v2 c64_i32_172
  let v267 : Index := Scalar.indexCast v266
  let c0_173 : Index := 0#32
  ![v267.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_266 : BitVec 32 := 64#32
  let v355 : BitVec 32 := Scalar.muli v2 c64_i32_266
  let v356 : Index := Scalar.indexCast v355
  let c0_267 : Index := 0#32
  ![v356.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_271 : BitVec 32 := 64#32
  let v361 : BitVec 32 := Scalar.muli v2 c64_i32_271
  let c0_i32_276 : BitVec 32 := 0#32
  ![v361.toNat, 0]
def k0_dev15 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_268 : BitVec 32 := 1#32
  let v358 : BitVec 32 := Scalar.addi v2 c1_i32_268
  let c8_i32_269 : BitVec 32 := 8#32
  let v359 : BitVec 32 := Scalar.remsi v358 c8_i32_269
  let c1_i32_274 : BitVec 32 := 1#32
  let v362 : BitVec 32 := Scalar.muli v359 c1_i32_274
  let v363 : BitVec 32 := Scalar.addi c0_i32_275 v362
  v363.toNat
def k0_dev16 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_278 : BitVec 32 := 2#32
  let v370 : BitVec 32 := Scalar.addi v2 c2_i32_278
  let c8_i32_279 : BitVec 32 := 8#32
  let v371 : BitVec 32 := Scalar.remsi v370 c8_i32_279
  let c1_i32_284 : BitVec 32 := 1#32
  let v374 : BitVec 32 := Scalar.muli v371 c1_i32_284
  let v375 : BitVec 32 := Scalar.addi c0_i32_285 v374
  v375.toNat
def k0_dev17 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_288 : BitVec 32 := 3#32
  let v382 : BitVec 32 := Scalar.addi v2 c3_i32_288
  let c8_i32_289 : BitVec 32 := 8#32
  let v383 : BitVec 32 := Scalar.remsi v382 c8_i32_289
  let c1_i32_294 : BitVec 32 := 1#32
  let v386 : BitVec 32 := Scalar.muli v383 c1_i32_294
  let v387 : BitVec 32 := Scalar.addi c0_i32_295 v386
  v387.toNat
def k0_dev18 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_298 : BitVec 32 := 4#32
  let v394 : BitVec 32 := Scalar.addi v2 c4_i32_298
  let c8_i32_299 : BitVec 32 := 8#32
  let v395 : BitVec 32 := Scalar.remsi v394 c8_i32_299
  let c1_i32_304 : BitVec 32 := 1#32
  let v398 : BitVec 32 := Scalar.muli v395 c1_i32_304
  let v399 : BitVec 32 := Scalar.addi c0_i32_305 v398
  v399.toNat
def k0_dev19 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_308 : BitVec 32 := 5#32
  let v406 : BitVec 32 := Scalar.addi v2 c5_i32_308
  let c8_i32_309 : BitVec 32 := 8#32
  let v407 : BitVec 32 := Scalar.remsi v406 c8_i32_309
  let c1_i32_314 : BitVec 32 := 1#32
  let v410 : BitVec 32 := Scalar.muli v407 c1_i32_314
  let v411 : BitVec 32 := Scalar.addi c0_i32_315 v410
  v411.toNat
def k0_dev20 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_318 : BitVec 32 := 6#32
  let v418 : BitVec 32 := Scalar.addi v2 c6_i32_318
  let c8_i32_319 : BitVec 32 := 8#32
  let v419 : BitVec 32 := Scalar.remsi v418 c8_i32_319
  let c1_i32_324 : BitVec 32 := 1#32
  let v422 : BitVec 32 := Scalar.muli v419 c1_i32_324
  let v423 : BitVec 32 := Scalar.addi c0_i32_325 v422
  v423.toNat
def k0_dev21 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_328 : BitVec 32 := 7#32
  let v430 : BitVec 32 := Scalar.addi v2 c7_i32_328
  let c8_i32_329 : BitVec 32 := 8#32
  let v431 : BitVec 32 := Scalar.remsi v430 c8_i32_329
  let c1_i32_334 : BitVec 32 := 1#32
  let v434 : BitVec 32 := Scalar.muli v431 c1_i32_334
  let v435 : BitVec 32 := Scalar.addi c0_i32_335 v434
  v435.toNat
def k0_off5 (d0 : Dev nD) (c1_i32_402 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_401 : BitVec 32 := 8#32
  let v484 : BitVec 32 := Scalar.addi v2 c8_i32_401
  let v485 : BitVec 32 := Scalar.subi v484 c1_i32_402
  let c8_i32_403 : BitVec 32 := 8#32
  let v486 : BitVec 32 := Scalar.remsi v485 c8_i32_403
  let c64_i32_405 : BitVec 32 := 64#32
  let v488 : BitVec 32 := Scalar.muli v486 c64_i32_405
  let c0_i32_410 : BitVec 32 := 0#32
  ![v488.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x32 : Shape := ⟨2, ![512, 32]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 91
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S32x256x512, .bf16⟩
  | .hbm, ⟨4, _⟩ => ⟨S512x256, .f32⟩
  | .hbm, ⟨5, _⟩ => ⟨S32x256x512, .f32⟩
  | .hbm, ⟨6, _⟩ => ⟨S256x32, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x32, .f32⟩
  | .hbm, ⟨12, _⟩ => ⟨S512x32, .f32⟩
  | .hbm, ⟨13, _⟩ => ⟨S512x32, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x32, .f32⟩
  | .hbm, ⟨18, _⟩ => ⟨S512x32, .f32⟩
  | .hbm, ⟨19, _⟩ => ⟨S512x1, .i32⟩
  | .hbm, ⟨20, _⟩ => ⟨S512, .i32⟩
  | .hbm, ⟨21, _⟩ => ⟨S512x1, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S512x1, .i32⟩
  | .hbm, ⟨40, _⟩ => ⟨S512x2, .i32⟩
  | .hbm, ⟨41, _⟩ => ⟨S512, .f32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S512x1, .i32⟩
  | .hbm, ⟨58, _⟩ => ⟨S512x2, .i32⟩
  | .hbm, ⟨59, _⟩ => ⟨S512, .f32⟩
  | .hbm, ⟨60, _⟩ => ⟨S512, .f32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S512x256x512, .f32⟩
  | .hbm, ⟨70, _⟩ => ⟨S512x512, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S512x256x512, .f32⟩
  | .hbm, ⟨80, _⟩ => ⟨S512x512, .f32⟩
  | .hbm, ⟨81, _⟩ => ⟨S512, .f32⟩
  | .hbm, ⟨82, _⟩ => ⟨S512x1, .f32⟩
  | .hbm, ⟨83, _⟩ => ⟨S512x512, .f32⟩
  | .hbm, ⟨84, _⟩ => ⟨S512x512, .f32⟩
  | .hbm, ⟨85, _⟩ => ⟨S512, .f32⟩
  | .hbm, ⟨86, _⟩ => ⟨S512x1, .f32⟩
  | .hbm, ⟨87, _⟩ => ⟨S512x512, .f32⟩
  | .hbm, ⟨88, _⟩ => ⟨S512x512, .f32⟩
  | .hbm, ⟨89, _⟩ => ⟨S512x512, .f32⟩
  | .hbm, ⟨90, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.Places.lean ====
/-
# The places of the kernel and what each of them comes to hold

The eight devices stand in a ring. Slot `j` (1 to 7) of a device pairs it with the device `up c j`, `j` places after
it, which writes slot `j` of `c`, and with the device `dn c j`, `j` places before it, whose slot `j` device `c`
writes. This module names the buffers, the rows and blocks the copies move, and the contents each landing leaves.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The ring -/

/-- The device `j` places after `c`. -/
def up (c : Dev nD) (j : Fin 8) : Dev nD := ⟨(c.val + j.val) % 8, Nat.mod_lt _ (by decide)⟩
/-- The device `j` places before `c`. -/
def dn (c : Dev nD) (j : Fin 8) : Dev nD := ⟨(c.val + 8 - j.val) % 8, Nat.mod_lt _ (by decide)⟩

theorem up_dn (c : Dev nD) (j : Fin 8) : up (dn c j) j = c := by
  revert c j; decide +kernel
theorem dn_up (c : Dev nD) (j : Fin 8) : dn (up c j) j = c := by
  revert c j; decide +kernel

/-- Going `j` places on is a bijection of the devices. -/
def upEquiv (j : Fin 8) : Dev nD ≃ Dev nD := ⟨fun c => up c j, fun c => dn c j, fun c => dn_up c j, fun c => up_dn c j⟩
/-- Going `j` places back is a bijection of the devices. -/
def dnEquiv (j : Fin 8) : Dev nD ≃ Dev nD := (upEquiv j).symm
/-- Every device is one and only one number of places after `c`. -/
def aroundEquiv (c : Dev nD) : Fin 8 ≃ Dev nD where
  toFun j := up c j
  invFun d := ⟨(d.val + 8 - c.val) % 8, Nat.mod_lt _ (by decide)⟩
  left_inv j := by revert c j; decide +kernel
  right_inv d := by revert c d; decide +kernel

/-- The slots in use. -/
abbrev J : Finset (Fin 8) := Finset.univ.erase 0

/-! ## The buffers -/

abbrev outM : Memref sig .tc .vmem S512x512 .bf16 := Memref.whole cc0_stg4_0
abbrev xcM : Memref sig .tc .vmem S512x1024 .bf16 := Memref.whole cc0_scratch0
abbrev sgM : Memref sig .tc .vmem S8x64x512 .bf16 := Memref.whole cc0_scratch1
abbrev rsM : Memref sig .tc .vmem S8x64x512 .bf16 := Memref.whole cc0_scratch2

theorem inbRow (j : ℕ) (hj : j < 8) : ∀ a, (![j, 0, 0] : Fin 3 → Nat) a + S1x64x512.size a ≤ S8x64x512.size a := by
  have h : ∀ k : Fin 8, ∀ a, (![k.val, 0, 0] : Fin 3 → Nat) a + S1x64x512.size a ≤ S8x64x512.size a := by decide
  exact h ⟨j, hj⟩
theorem inbSlot (j : ℕ) (hj : j < 8) : ∀ a, (![j] : Fin 1 → Nat) a + S1.size a ≤ S8.size a := by
  have h : ∀ k : Fin 8, ∀ a, (![k.val] : Fin 1 → Nat) a + S1.size a ≤ S8.size a := by decide
  exact h ⟨j, hj⟩

/-- Row `j` of an eight-row buffer, as a rectangle of it. -/
abbrev rowRect (j : ℕ) (hj : j < 8) : Rect S8x64x512 :=
  Rect.unit (s := S8x64x512) ![j, 0, 0] S1x64x512.size (inbRow j hj)
/-- Row `j` of an eight-row buffer, as the copies name it. -/
abbrev rowM (M : Memref sig .tc .vmem S8x64x512 .bf16) (j : ℕ) (hj : j < 8) : Memref sig .tc .vmem S64x512 .bf16 :=
  (M.slice (rowRect j hj) (fun _ => rfl)).squeeze S64x512 squeezes_S1x64x512_S64x512
/-- Device `d`'s block of the result, as a rectangle of it. -/
abbrev outRect (d : Dev nD) : Rect S512x512 :=
  Rect.unit (s := S512x512) (k0_off4 d) S64x512.size (k0_off4_inb d)
/-- Device `d`'s block of the result, as the copies name it. -/
abbrev blkM (d : Dev nD) : Memref sig .tc .vmem S64x512 .bf16 := outM.slice (outRect d) (fun _ => rfl)
/-- Semaphore `j` of an array of eight. -/
abbrev semAt (A : DmaSems sig S8) (j : ℕ) (hj : j < 8) : DmaSem sig :=
  ((A.slice (Rect.unit (s := S8) ![j] S1.size (inbSlot j hj))).squeeze S_ squeezes_S1_S_).sem

/-- The elements of row `j`. -/
abbrev rowSet (j : ℕ) (hj : j < 8) : Finset S8x64x512.Idx := (rowRect j hj).set
/-- The elements of device `d`'s block of the result. -/
abbrev outSet (d : Dev nD) : Finset S512x512.Idx := (outRect d).set

theorem rowM_set_sg (j : ℕ) (hj : j < 8) : (rowM sgM j hj).view.set = rowSet j hj :=
  (Memref.set_view_squeeze _ _).trans (View.set_slice_whole _ _)
theorem rowM_set_rs (j : ℕ) (hj : j < 8) : (rowM rsM j hj).view.set = rowSet j hj :=
  (Memref.set_view_squeeze _ _).trans (View.set_slice_whole _ _)
theorem blkM_set (d : Dev nD) : (blkM d).view.set = outSet d := View.set_slice_whole _ _

theorem mem_rowSet (j : ℕ) (hj : j < 8) (i : S8x64x512.Idx) : i ∈ rowSet j hj ↔ (i 0).val = j := by
  rw [rowSet, Rect.mem_set_unit]
  constructor
  · intro h; have := h 0; simp at this; omega
  · intro h a; have h1 := (i 1).isLt; have h2 := (i 2).isLt
    fin_cases a <;> simp at * <;> omega
theorem mem_outSet (d : Dev nD) (i : S512x512.Idx) : i ∈ outSet d ↔ (i 0).val / 64 = d.val := by
  rw [outSet, Rect.mem_set_unit, k0_off4_eq]
  constructor
  · intro h; have := h 0; simp at this; omega
  · intro h a; have h1 := (i 1).isLt
    fin_cases a <;> simp at * <;> omega

/-! ## The contents -/

/-- The four operands as device `c`'s launch stages them. -/
def xin (m : (l : Loc nD τ sig) → Buf (Elt F) l) (c : Dev nD) : Vec F S512x256 .bf16 := iblk m c 0 t0_0
def rin (m : (l : Loc nD τ sig) → Buf (Elt F) l) (c : Dev nD) : Vec F S256x32 .bf16 := iblk m c 1 t0_0
def iin (m : (l : Loc nD τ sig) → Buf (Elt F) l) (c : Dev nD) : Vec F S512x2 .i32 := iblk m c 2 t0_0
def ein (m : (l : Loc nD τ sig) → Buf (Elt F) l) (c : Dev nD) : Vec F S4x256x512 .bf16 := iblk m c 3 t0_0

/-- One column of the routing table. -/
def icol (f : Vec F S512x2 .i32) (o : Fin 2 → Nat) (h : ∀ a, o a + S512x1.size a ≤ S512x2.size a) : Vec F S512x1 .i32 :=
  (Memref.whole cc0_stg2_0).view.readAt (Elt F) (Rect.unit (s := S512x2) o S512x1.size h).toLoadRect f

/-- Device `c`'s place in the ring as the program computes it. -/
def place (c : Dev nD) : BitVec 32 := Scalar.remsi (Scalar.divsi (Dev.word c) 1#32) 8#32

section
variable (m : (l : Loc nD τ sig) → Buf (Elt F) l) (c : Dev nD)

def i0 : Vec F S512x1 .i32 := icol (F := F) (iin m c) ![0, 0] inb_S512x2_S512x1_0_0
def i1 : Vec F S512x1 .i32 := icol (F := F) (iin m c) ![0, 1] inb_S512x2_S512x1_0_1

def v33 : FVec F S512x256 .bf16 := k0_pay1 (xin m c)
def v46 : IVec S512x32 32 := iota .tc S512x32 32 [1] iota_S512x32_d1_w32
def v52 : FVec F S512x32 .f32 := k0_pay3 (i0 m c)
def v58 : FVec F S512x32 .f32 := k0_pay4 (i1 m c)
def v61 : FVec F S512x1 .f32 := k0_pay5 (xin m c) (rin m c) (i0 m c)
def v62 : FVec F S512x32 .f32 := k0_pay6 (xin m c) (rin m c) (i1 m c)

/-- Device `c`'s gated tokens: for each of its four experts the tokens scaled by that expert's gate, side by side. -/
def xc : FVec F S512x1024 .bf16 :=
  k0_pay12 (v33 m c)
    (k0_pay8 (place c) (v33 m c) v46 (v52 m c) (v58 m c) (v61 m c) (v62 m c))
    (k0_pay9 (place c) (v33 m c) v46 (v52 m c) (v58 m c) (v61 m c) (v62 m c))
    (k0_pay10 (place c) (v33 m c) v46 (v52 m c) (v58 m c) (v61 m c) (v62 m c))
    (k0_pay11 (place c) v46 (v52 m c) (v58 m c) (v61 m c) (v62 m c))

/-- Device `c`'s four experts' weights, stacked. -/
def wc : FVec F S1024x512 .bf16 := k0_pay13 (ein m c)

end

/-- The rows `64 b` to `64 b + 63` of the gated tokens. -/
def xblk (f : FVec F S512x1024 .bf16) (b : Dev nD) : Vec F S64x1024 .bf16 :=
  xcM.view.readAt (Elt F) (Rect.unit (s := S512x1024) (k0_off2 b) S64x1024.size (k0_off2_inb b)).toLoadRect f

/-- What device `d`'s experts add to block `b`. -/
def part (m : (l : Loc nD τ sig) → Buf (Elt F) l) (d b : Dev nD) : FVec F S1x64x512 .bf16 :=
  k0_pay15 (wc m d) (xblk (xc m d) b)

/-- The rows device `c` makes to send: row `j` for the device `j` places before it. -/
def SG (m : (l : Loc nD τ sig) → Buf (Elt F) l) (c : Dev nD) : S8x64x512.Idx → Elt F .bf16 :=
  fun i => part m c (dn c (i 0)) (ix3 0 (i 1) (i 2))

/-- The rows device `c` receives: row `j` from the device `j` places after it. -/
def RS (m : (l : Loc nD τ sig) → Buf (Elt F) l) (c : Dev nD) : S8x64x512.Idx → Elt F .bf16 :=
  fun i => part m (up c (i 0)) c (ix3 0 (i 1) (i 2))

/-- Block `c` of the result: device `c`'s own part and the seven it receives, in slot order. -/
def red (m : (l : Loc nD τ sig) → Buf (Elt F) l) (c : Dev nD) : FVec F S64x512 .bf16 :=
  k0_pay23 (k0_pay22 (k0_pay21 (wc m c) (xblk (xc m c) c))
      (part m (up c 1) c) (part m (up c 2) c) (part m (up c 3) c) (part m (up c 4) c) (part m (up c 5) c))
    (part m (up c 6) c) (part m (up c 7) c)

/-- The result, the same on every device: block after block. -/
def OUT (m : (l : Loc nD τ sig) → Buf (Elt F) l) : S512x512.Idx → Elt F .bf16 :=
  fun i => red m ⟨(i 0).val / 64, Nat.div_lt_of_lt_mul (i 0).isLt⟩
    (ix2 ⟨(i 0).val % 64, Nat.mod_lt _ (by decide)⟩ (i 1))

end Cert.KernelIdeal.Run

end
-- ==== Proof.Protocol.lean ====
/-
# The protocol

Every device signals the barrier semaphore of the seven others, giving each of them the row of its landing buffer and
the block of its result that the other will write; it waits for the seven signals it is owed itself. A transfer's sent
semaphore gives its source back, its landed semaphore hands the destination over at the contents sent.
-/
module

public import proofs.«01_k».proof.Proof.Places
public import Idealize.ShloMosaic.Lib.Transfers

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra -/

/-- The ring's round state: cells of the program, duties named by slots. -/
abbrev UB : Type := URounds (GSem nD τ sig) (Fin 8)
/-- The pipeline library's round state beside the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The runtime's barrier semaphore. -/
abbrev barS : Sem sig := (SemArray.scalar (sig.barrier 0 rfl) : Sems sig S_).sem

/-- The kernel's four arrays of transfer semaphores: phase one sent and landed, phase two sent and landed. -/
abbrev arr : Fin 4 → DmaSems sig S8 := fun | 0 => cc0_scratch3 | 1 => cc0_scratch4 | 2 => cc0_scratch5 | 3 => cc0_scratch6

/-- The cells of one device: the barrier semaphore, and slot `j` of array `a`. -/
abbrev Kx : Type := Option (Fin 4 × Fin 8)

/-- The transfer semaphores of the launch. -/
abbrev osem (p : Fin 4 × Fin 8) : SemLoc sig := .dma (semAt (arr p.1) p.2.val p.2.isLt)
/-- All semaphores of the protocol. -/
abbrev csem : Kx → SemLoc sig := fun | none => .reg barS | some p => osem p
/-- A device's cell. -/
abbrev kcell (ck : Dev nD × Kx) : GSem nD τ sig := ((ck.1 : Thread nD τ), csem ck.2)
abbrev barC (c : Dev nD) : GSem nD τ sig := kcell (c, none)
abbrev s1C (c : Dev nD) (j : Fin 8) : GSem nD τ sig := kcell (c, some (0, j))
abbrev p1C (c : Dev nD) (j : Fin 8) : GSem nD τ sig := kcell (c, some (1, j))
abbrev s2C (c : Dev nD) (j : Fin 8) : GSem nD τ sig := kcell (c, some (2, j))
abbrev p2C (c : Dev nD) (j : Fin 8) : GSem nD τ sig := kcell (c, some (3, j))

theorem osem_injective : Function.Injective osem := by
  have h : ∀ p q : Fin 4 × Fin 8, osem p = osem q → p = q := by decide +kernel
  exact fun p q => h p q
theorem csem_injective : Function.Injective csem := by
  rintro (_ | p) (_ | q) h
  · rfl
  · cases h
  · cases h
  · exact congrArg some (osem_injective h)
theorem kcell_injective : Function.Injective kcell := by
  rintro ⟨c, k⟩ ⟨c', k'⟩ h
  have h1 : (c : Thread nD τ) = c' := congrArg Prod.fst h
  have h2 := csem_injective (congrArg Prod.snd h)
  have h3 : c = c' := congrArg Prod.fst h1
  subst h3; subst h2; rfl

/-- The name of a semaphore in the protocol. -/
def dec (sm : SemLoc sig) : Option Kx := if h : ∃ k, csem k = sm then some h.choose else none
theorem dec_csem (k : Kx) : dec (csem k) = some k := by
  have h : ∃ k', csem k' = csem k := ⟨k, rfl⟩
  unfold dec; rw [dif_pos h]; exact congrArg some (csem_injective h.choose_spec)
theorem dec_some {sm : SemLoc sig} {k : Kx} (h : dec sm = some k) : csem k = sm := by
  unfold dec at h
  split at h
  · next h' => cases h; exact h'.choose_spec
  · cases h

/-- The credit of one row's landing, and of one block's. -/
abbrev N1 : ℕ := (rowM rsM 0 (by decide)).view.dmaCredit
abbrev N2 : ℕ := (blkM 0).view.dmaCredit
theorem N1_pos : 0 < N1 := View.dmaCredit_pos _ (by decide)
theorem N2_pos : 0 < N2 := View.dmaCredit_pos _ (by decide)

/-! ## What the cells hand over -/

/-- Row `j` of the send buffer, of the landing buffer; block `d` of the result, at a share. -/
def sgRow (c : Dev nD) (j : Fin 8) (f : Buf (Elt F) ((c : Thread nD τ).loc cc0_scratch1)) : sProp 𝕄 :=
  ((c : Thread nD τ).loc cc0_scratch1) ↦[rowSet j.val j.isLt]{fullShare} f
def rsRow (c : Dev nD) (j : Fin 8) (f : Buf (Elt F) ((c : Thread nD τ).loc cc0_scratch2)) : sProp 𝕄 :=
  ((c : Thread nD τ).loc cc0_scratch2) ↦[rowSet j.val j.isLt]{fullShare} f
def outBlk (q : PosShare TreeShare) (c d : Dev nD) (f : Buf (Elt F) ((c : Thread nD τ).loc cc0_stg4_0)) : sProp 𝕄 :=
  ((c : Thread nD τ).loc cc0_stg4_0) ↦[outSet d]{q} f

instance sgRow_storable (c : Dev nD) (j f) : BI.Storable (upEmb : UEmb _ 𝕄) (sgRow (F := F) c j f) := by unfold sgRow; infer_instance
instance rsRow_storable (c : Dev nD) (j f) : BI.Storable (upEmb : UEmb _ 𝕄) (rsRow (F := F) c j f) := by unfold rsRow; infer_instance
instance outBlk_storable (q) (c d : Dev nD) (f) : BI.Storable (upEmb : UEmb _ 𝕄) (outBlk (F := F) q c d f) := by unfold outBlk; infer_instance

section
variable (m : (l : Loc nD τ sig) → Buf (Elt F) l)

/-- What duty `d` of a cell of device `c` hands over. The barrier: the signaller is `dn c d`, which gives the row of
    its landing buffer and the block of its result that `c` writes. A sent cell: the row, or this copy's share of the
    block, back. A landed cell: the row or the block, at what the sender put there. -/
def pay (c : Dev nD) (d : Fin 8) : Kx → sProp 𝕄
  | none => iprop((∃ f, rsRow (dn c d) d f) ∗ (∃ f, outBlk fullShare (dn c d) c f))
  | some (0, j) => iprop(∃ f, sgRow c j f)
  | some (1, j) => rsRow c j (RS m c)
  | some (2, j) => outBlk (Transfers.dealOf fullShare J j) c c (OUT m)
  | some (3, j) => outBlk fullShare c (up c j) (OUT m)

instance pay_storable (c : Dev nD) (d : Fin 8) (k : Kx) : BI.Storable (upEmb : UEmb _ 𝕄) (pay (F := F) m c d k) := by
  rcases k with _ | ⟨a, j⟩
  · unfold pay; infer_instance
  · fin_cases a <;> (unfold pay; infer_instance)

/-- The duties of a cell: the barrier's seven signallers; one copy for every slot in use. -/
def dutiesOf : Kx → Finset (Fin 8)
  | none => J
  | some (_, j) => if j = 0 then ∅ else {0}
/-- The units of each duty. -/
def unitsOf : Kx → ℕ
  | none => 1
  | some (a, _) => if a = 0 ∨ a = 1 then N1 else N2

theorem unitsOf_pos : ∀ k, 0 < unitsOf k
  | none => Nat.one_pos
  | some (a, j) => by unfold unitsOf; dsimp only; split; exacts [N1_pos, N2_pos]

/-- The protocol: one round. -/
def Rd : Rounds.Schedule (GSem nD τ sig) (Fin 8) 𝕄 where
  duties g r := if r = 0 ∧ g.1.2 = .tc then (dec g.2).elim ∅ dutiesOf else ∅
  unitless _ := False
  amount g _ _ := (dec g.2).elim 1 unitsOf
  payload g _ d := (dec g.2).elim iprop(emp) (pay m g.1.1 d)
  amount_pos g _ _ _ := by
    rcases dec g.2 with _ | k
    · exact Nat.one_pos
    · exact unitsOf_pos k

instance Rd_payload_storable (g : GSem nD τ sig) (r : ℕ) (d : Fin 8) :
    BI.Storable (upEmb : UEmb _ 𝕄) ((Rd (F := F) m).payload g r d) := by
  show BI.Storable upEmb ((dec g.2).elim iprop(emp) (pay m g.1.1 d))
  rcases dec g.2 with _ | k
  · show BI.Storable upEmb iprop(emp); infer_instance
  · show BI.Storable upEmb (pay m g.1.1 d k); infer_instance

theorem Rd_duties (c : Dev nD) (k : Kx) : (Rd (F := F) m).duties (kcell (c, k)) 0 = dutiesOf k := by
  dsimp only [Rd]; rw [if_pos ⟨rfl, rfl⟩, dec_csem]; rfl
theorem Rd_duties_later (g : GSem nD τ sig) : ∀ r, 1 ≤ r → (Rd (F := F) m).duties g r = ∅ :=
  fun r hr => by dsimp only [Rd]; rw [if_neg fun h => by omega]
theorem Rd_amount (c : Dev nD) (k : Kx) (r : ℕ) (d : Fin 8) : (Rd (F := F) m).amount (kcell (c, k)) r d = unitsOf k := by
  dsimp only [Rd]; rw [dec_csem]; rfl
theorem Rd_payload (c : Dev nD) (k : Kx) (r : ℕ) (d : Fin 8) : (Rd (F := F) m).payload (kcell (c, k)) r d = pay m c d k := by
  dsimp only [Rd]; rw [dec_csem]; rfl
theorem Rd_expect (c : Dev nD) (k : Kx) : (Rd (F := F) m).expect (kcell (c, k)) 0 = (dutiesOf k).card * unitsOf k := by
  unfold Schedule.expect Schedule.amountOf
  rw [Rd_duties, Finset.sum_congr rfl fun d _ => Rd_amount m c k 0 d, Finset.sum_const, smul_eq_mul]

end

/-! ## What a device owes -/

/-- The signals still owed once those to slots up to `a` are given. -/
def oweA (c : Dev nD) (a : ℕ) : CellTallies nD τ sig Unit :=
  ∑ j ∈ Finset.univ.filter (fun j : Fin 8 => a < j.val), tallyAt (barC (up c j)) () 1
/-- The rows, and the blocks, still owed once those of slots above `b` are sent. -/
def oweB (c : Dev nD) (b : ℕ) : CellTallies nD τ sig Unit :=
  ∑ j ∈ Finset.univ.filter (fun j : Fin 8 => 0 < j.val ∧ j.val ≤ b), tallyAt (p1C (dn c j) j) () N1
def oweC (c : Dev nD) (b : ℕ) : CellTallies nD τ sig Unit :=
  ∑ j ∈ Finset.univ.filter (fun j : Fin 8 => 0 < j.val ∧ j.val ≤ b), tallyAt (p2C (dn c j) j) () N2
/-- What is owed: signals, rows, blocks. -/
def owe (c : Dev nD) (a b d : ℕ) : CellTallies nD τ sig Unit := oweA c a + oweB c b + oweC c d

theorem filter_gt (a : ℕ) (h : a + 1 < 8) :
    Finset.univ.filter (fun j : Fin 8 => a < j.val) = insert ⟨a + 1, h⟩ (Finset.univ.filter (fun j : Fin 8 => a + 1 < j.val)) := by
  ext j; simp only [Finset.mem_filter, Finset.mem_univ, true_and, Finset.mem_insert, Fin.ext_iff]; omega
theorem filter_le (b : ℕ) (h : b + 1 < 8) :
    Finset.univ.filter (fun j : Fin 8 => 0 < j.val ∧ j.val ≤ b + 1) = insert ⟨b + 1, h⟩ (Finset.univ.filter (fun j : Fin 8 => 0 < j.val ∧ j.val ≤ b)) := by
  ext j; simp only [Finset.mem_filter, Finset.mem_univ, true_and, Finset.mem_insert, Fin.ext_iff]; omega

theorem owe_signal (c : Dev nD) (a b d : ℕ) (h : a + 1 < 8) :
    owe c a b d = owe c (a + 1) b d + tallyAt (barC (up c ⟨a + 1, h⟩)) () 1 := by
  have e : oweA c a = oweA c (a + 1) + tallyAt (barC (up c ⟨a + 1, h⟩)) () 1 := by
    unfold oweA; rw [filter_gt a h, Finset.sum_insert (by simp), add_comm]
  unfold owe; rw [e]; abel
theorem owe_row (c : Dev nD) (a b d : ℕ) (h : b + 1 < 8) :
    owe c a (b + 1) d = owe c a b d + tallyAt (p1C (dn c ⟨b + 1, h⟩) ⟨b + 1, h⟩) () N1 := by
  have e : oweB c (b + 1) = oweB c b + tallyAt (p1C (dn c ⟨b + 1, h⟩) ⟨b + 1, h⟩) () N1 := by
    unfold oweB; rw [filter_le b h, Finset.sum_insert (by simp), add_comm]
  unfold owe; rw [e]; abel
theorem owe_blk (c : Dev nD) (a b d : ℕ) (h : d + 1 < 8) :
    owe c a b (d + 1) = owe c a b d + tallyAt (p2C (dn c ⟨d + 1, h⟩) ⟨d + 1, h⟩) () N2 := by
  have e : oweC c (d + 1) = oweC c d + tallyAt (p2C (dn c ⟨d + 1, h⟩) ⟨d + 1, h⟩) () N2 := by
    unfold oweC; rw [filter_le d h, Finset.sum_insert (by simp), add_comm]
  unfold owe; rw [e]; abel

theorem oweA_seven (c : Dev nD) : oweA c 7 = 0 := by
  unfold oweA; rw [show Finset.univ.filter (fun j : Fin 8 => 7 < j.val) = ∅ by decide, Finset.sum_empty]
theorem oweB_zero (c : Dev nD) : oweB c 0 = 0 := by
  unfold oweB; rw [show Finset.univ.filter (fun j : Fin 8 => 0 < j.val ∧ j.val ≤ 0) = ∅ by decide, Finset.sum_empty]
theorem oweC_zero (c : Dev nD) : oweC c 0 = 0 := by
  unfold oweC; rw [show Finset.univ.filter (fun j : Fin 8 => 0 < j.val ∧ j.val ≤ 0) = ∅ by decide, Finset.sum_empty]
theorem owe_done (c : Dev nD) : owe c 7 0 0 = 0 := by
  unfold owe; rw [oweA_seven, oweB_zero, oweC_zero, add_zero, add_zero]

/-! ## The levels: a signal is waited for before any row, a row before any block -/

def L (g : GSem nD τ sig) : Finset Unit := if g.1.2 = .tc then {()} else ∅
def lvK : Kx → ℕ
  | none => 1
  | some (a, _) => if a = 1 then 2 else if a = 3 then 3 else 0
def lv (g : GSem nD τ sig) (_ : Unit) : ℕ := (dec g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Kx) : lv (kcell (c, k)) () = lvK k := by unfold lv; rw [dec_csem]; rfl

/-- A sum of tallies that is positive at a cell has a summand there. -/
theorem tallySum_pos {ι : Type} (s : Finset ι) (cell : ι → GSem nD τ sig) (n : ℕ) {g : GSem nD τ sig} {u : Unit}
    (h : 0 < (∑ j ∈ s, tallyAt (cell j) () n : CellTallies nD τ sig Unit) g u) : ∃ j ∈ s, g = cell j := by
  classical
  induction s using Finset.induction_on with
  | empty => simp at h
  | insert j s hj ih =>
    rw [Finset.sum_insert hj, Pi.add_apply, Finsupp.add_apply, tallyAt_apply] at h
    by_cases e : g = cell j
    · exact ⟨j, Finset.mem_insert_self _ _, e⟩
    · rw [if_neg (fun h' => e h'.1), Nat.zero_add] at h
      obtain ⟨i, hi, e'⟩ := ih h
      exact ⟨i, Finset.mem_insert_of_mem hi, e'⟩

/-- A cell a device owes is one it signals, one it sends a row to, or one it sends a block to. -/
theorem owe_pos {c : Dev nD} {a b d : ℕ} {g : GSem nD τ sig} {u : Unit} (h : 0 < owe c a b d g u) :
    (0 < oweA c a g u ∧ ∃ c', g = barC c') ∨ (0 < oweB c b g u ∧ ∃ c' j, g = p1C c' j) ∨ (0 < oweC c d g u ∧ ∃ c' j, g = p2C c' j) := by
  unfold owe at h
  rw [Pi.add_apply, Finsupp.add_apply, Pi.add_apply, Finsupp.add_apply] at h
  rcases Nat.pos_of_ne_zero (Nat.pos_iff_ne_zero.mp h) with _
  by_cases hA : 0 < oweA c a g u
  · exact .inl ⟨hA, let ⟨j, _, e⟩ := tallySum_pos _ _ _ hA; ⟨_, e⟩⟩
  by_cases hB : 0 < oweB c b g u
  · exact .inr (.inl ⟨hB, let ⟨j, _, e⟩ := tallySum_pos _ _ _ hB; ⟨_, _, e⟩⟩)
  · have hC : 0 < oweC c d g u := by omega
    exact .inr (.inr ⟨hC, let ⟨j, _, e⟩ := tallySum_pos _ _ _ hC; ⟨_, _, e⟩⟩)

/-- A device may wait on a semaphore whose level is below all it owes. -/
theorem mayWait_of_lt (c : Dev nD) (sm : SemLoc sig) (a b d n : ℕ) (hn : lv ((c : Thread nD τ), sm) () ≤ n)
    (hA : a < 7 → n < 1) (hB : 0 < b → n < 2) (hC : 0 < d → n < 3) :
    (levAts L lv : sProp 𝕄) ⊢ MayWait (c : Thread nD τ) sm () (owe c a b d) := by
  have hA' : ∀ g u, 0 < oweA c a g u → a < 7 := fun g u h => by
    obtain ⟨j, hj, -⟩ := tallySum_pos _ _ _ h
    have := (Finset.mem_filter.mp hj).2; omega
  have hB' : ∀ g u, 0 < oweB c b g u → 0 < b := fun g u h => by
    obtain ⟨j, hj, -⟩ := tallySum_pos _ _ _ h
    have := (Finset.mem_filter.mp hj).2; omega
  have hC' : ∀ g u, 0 < oweC c d g u → 0 < d := fun g u h => by
    obtain ⟨j, hj, -⟩ := tallySum_pos _ _ _ h
    have := (Finset.mem_filter.mp hj).2; omega
  refine MayOwe.of_cut (L := L) (lev := lv) n (fun p hp => by rw [Finset.mem_singleton.mp hp, L_tc]; exact Finset.mem_singleton_self _)
    (fun g u hg => by
      rcases owe_pos hg with ⟨-, c', rfl⟩ | ⟨-, c', j, rfl⟩ | ⟨-, c', j, rfl⟩ <;> (rw [L_tc]; exact Finset.mem_singleton_self _))
    (fun p hp => by rw [Finset.mem_singleton.mp hp]; exact hn)
    (fun g u hg => by
      rcases owe_pos hg with ⟨h, c', rfl⟩ | ⟨h, c', j, rfl⟩ | ⟨h, c', j, rfl⟩
      · rw [lv_kcell]; exact hA (hA' _ _ h)
      · rw [lv_kcell]; exact hB (hB' _ _ h)
      · rw [lv_kcell]; exact hC (hC' _ _ h))

end Cert.KernelIdeal.Run

end
-- ==== Proof.Steps.lean ====
/-
# The steps of the body: signals and waits

What each signal and each wait of the kernel's body does to the state of the protocol. A state speaks of the slots
still to come and the slots done, so that one lemma serves all seven slots.
-/
module

public import proofs.«01_k».proof.Proof.Protocol

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program of device `c`'s core is safe and ends at `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Families over the slots still to come and the slots done -/

/-- Over the slots 1 to `b`. -/
def Lo (b : ℕ) (Φ : Fin 8 → sProp 𝕄) : sProp 𝕄 := bigSep (Finset.univ.filter (fun j : Fin 8 => 0 < j.val ∧ j.val ≤ b)) Φ
/-- Over the slots above `a`. -/
def Up (a : ℕ) (Φ : Fin 8 → sProp 𝕄) : sProp 𝕄 := bigSep (Finset.univ.filter (fun j : Fin 8 => a < j.val)) Φ

theorem Lo_succ (b : ℕ) (h : b + 1 < 8) (Φ : Fin 8 → sProp 𝕄) : Lo (b + 1) Φ = iprop(Φ ⟨b + 1, h⟩ ∗ Lo b Φ) := by
  unfold Lo; rw [filter_le b h]; exact bigSep_insert (by simp)
theorem Up_succ (a : ℕ) (h : a + 1 < 8) (Φ : Fin 8 → sProp 𝕄) : Up a Φ = iprop(Φ ⟨a + 1, h⟩ ∗ Up (a + 1) Φ) := by
  unfold Up; rw [filter_gt a h]; exact bigSep_insert (by simp)
theorem Lo_zero (Φ : Fin 8 → sProp 𝕄) : Lo 0 Φ = iprop(emp) := by
  unfold Lo; rw [show Finset.univ.filter (fun j : Fin 8 => 0 < j.val ∧ j.val ≤ 0) = ∅ by decide]; rfl
theorem Up_seven (Φ : Fin 8 → sProp 𝕄) : Up 7 Φ = iprop(emp) := by
  unfold Up; rw [show Finset.univ.filter (fun j : Fin 8 => 7 < j.val) = ∅ by decide]; rfl
theorem Lo_seven (Φ : Fin 8 → sProp 𝕄) : Lo 7 Φ = bigSep J Φ := by
  unfold Lo; rw [show Finset.univ.filter (fun j : Fin 8 => 0 < j.val ∧ j.val ≤ 7) = J by decide]
theorem Up_zero (Φ : Fin 8 → sProp 𝕄) : Up 0 Φ = bigSep J Φ := by
  unfold Up; rw [show Finset.univ.filter (fun j : Fin 8 => 0 < j.val) = J by decide]

/-- What is owed, the waits made kept out of sight. -/
def Ow (c : Dev nD) (a b d : ℕ) : sProp 𝕄 := iprop(∃ W, owes (c : Thread nD τ) (owe c a b d) W)

variable (m : (l : Loc nD τ sig) → Buf (Elt F) l) (K : Dev nD × Kx → ℕ)

/-- Every cell's invariant, and that every cell has reached its round. -/
def records : sProp 𝕄 :=
  iprop(bigSep Finset.univ (fun ck : Dev nD × Kx => cellInv ER (Rd m) (K ck) (kcell ck))
    ∗ bigSep Finset.univ (fun ck : Dev nD × Kx => reached ER (kcell ck) 0))
instance records_persistent : BI.Persistent (records (F := F) m K) := by unfold records; infer_instance

theorem inv_at (ck : Dev nD × Kx) : records m K ⊢ cellInv ER (Rd (F := F) m) (K ck) (kcell ck) := by
  unfold records; exact sep_elim_left.trans (bigSep_elim (Finset.mem_univ ck))
theorem reached_at (ck : Dev nD × Kx) : records (F := F) m K ⊢ reached ER (kcell ck) 0 := by
  unfold records; exact sep_elim_right.trans (bigSep_elim (Finset.mem_univ ck))

/-! ## The signals -/

/-- What a device needs to signal slot `j`'s device: the right to, and the row and the block it gives away. -/
def Sig (c : Dev nD) (j : Fin 8) : sProp 𝕄 :=
  iprop(dutyTok ER (barC (up c j)) 0 j ∗ (∃ f, rsRow (F := F) c j f) ∗ (∃ f, outBlk (F := F) fullShare c (up c j) f))
/-- The signals up to slot `a` given. -/
def StA (c : Dev nD) (a : ℕ) : sProp 𝕄 := iprop(Ow c a 7 7 ∗ Up a (Sig (F := F) c))

theorem mem_J {j : ℕ} (h : 0 < j) (hj : j < 8) : (⟨j, hj⟩ : Fin 8) ∈ J := by
  rw [Finset.mem_erase]; exact ⟨fun e => by have := congrArg Fin.val e; simp at this; omega, Finset.mem_univ _⟩

/-- The signal of the next slot. -/
theorem wp_sig (c : Dev nD) (a j : ℕ) (e : j = a + 1) (hj : j < 8) (n : Dev nD) (hn : n = up c ⟨j, hj⟩) (k' : ℕ) (hk' : k' = 1)
    {α : Type} {k : PUnit → Prog (TpuEff nD τ sig (Elt F) Λ₀ .tc) α} {Q : α → sProp 𝕄} :
    iprop(records m K ∗ StA c a) ⊢ iprop((StA c j -∗ WP c (k ⟨⟩) Q)
      -∗ WP c (.op (.semSignal (Dev.tc n : Thread nD τ) barS k') k) Q) := by
  subst e hn hk'
  unfold StA
  rw [Up_succ a hj]
  unfold Ow Sig
  iintro ⟨#HR, ⟨%W, HO⟩, ⟨Htok, Hrs, Hout⟩, Hup⟩ Hk
  iapply (Rounds.wp_signal 𝒱₀ ER (Rd m) (c : Thread nD τ) none (dst := (up c ⟨a + 1, hj⟩ : Thread nD τ)) (κ := K (up c ⟨a + 1, hj⟩, none))
      (r := 0) (d := ⟨a + 1, hj⟩) ((congrArg (fun s => (⟨a + 1, hj⟩ : Fin 8) ∈ s) (Rd_duties m (up c ⟨a + 1, hj⟩) none)).mpr (mem_J (Nat.succ_pos a) hj)) (Rd_amount m _ none 0 _) () (owe c (a + 1) 7 7) (owe_signal c a 7 7 hj)
      (W := W)) $$ [HO Htok Hrs Hout]
  · isplitr; · iapply (inv_at m K (up c ⟨a + 1, hj⟩, none)); iexact HR
    isplitl [HO]; · iexact HO
    isplitl [Htok]; · iexact Htok
    isplitl [Hrs Hout]
    · iapply (Entails.of_eq (Rd_payload m (up c ⟨a + 1, hj⟩) none 0 ⟨a + 1, hj⟩).symm)
      unfold pay; rw [dn_up]
      isplitl [Hrs] <;> iassumption
    · iapply (reached_at m K (up c ⟨a + 1, hj⟩, none)); iexact HR
  iintro HO
  iapply Hk
  isplitl [HO]; · iexists W; iexact HO
  iexact Hup

/-! ## The waits -/

/-- What a device needs to wait on a cell. -/
def Wt (c : Dev nD) (k : Kx) : sProp 𝕄 :=
  iprop(atPos ER (kcell (c, k)) 0 ∅ 0 ∗ cred (tallyAt (kcell (c, k)) () ((dutiesOf k).card * unitsOf k)))
/-- What it has once it has waited: the semaphore back at zero, and what its duties handed over. -/
def Got (c : Dev nD) (k : Kx) : sProp 𝕄 :=
  iprop(semVal (kcell (c, k)) 0 ∗ bigSep (dutiesOf k) (fun d => pay (F := F) m c d k))

/-- A wait for the whole round of a cell, the cell then closed. -/
theorem wp_wait (c : Dev nD) (k₀ : Kx) (a b d : ℕ) (hA : a < 7 → lvK k₀ < 1) (hB : 0 < b → lvK k₀ < 2) (hC : 0 < d → lvK k₀ < 3)
    {w : TpuEff nD τ sig (Elt F) Λ₀ .tc PUnit} (n : ℕ)
    (hw : ∀ Kt : PUnit → sProp 𝕄, wpE (defs₀ (F := F)) 𝒱₀ (c : Thread nD τ) none Set.univ w Kt = waitSpec (c : Thread nD τ) Set.univ (csem k₀) n Kt)
    (hn : n = (dutiesOf k₀).card * unitsOf k₀)
    {α : Type} {k : PUnit → Prog (TpuEff nD τ sig (Elt F) Λ₀ .tc) α} {Q : α → sProp 𝕄} :
    iprop(records m K ∗ levAts L lv ∗ Ow c a b d ∗ Wt c k₀)
      ⊢ iprop(((Ow c a b d ∗ Got m c k₀) -∗ WP c (k ⟨⟩) Q) -∗ WP c (.op w k) Q) := by
  subst hn
  unfold Ow Wt Got
  iintro ⟨#HR, #HL, ⟨%W, HO⟩, Hat, Hc⟩ Hk
  iapply (Rounds.wp_wait_rest_token 𝒱₀ ER (Rd m) (c : Thread nD τ) none (κ := K (c, k₀)) hw (Set.mem_univ _) ()
      (O := owe c a b d) (W := W) (R := 0) (m := 0) (T := ∅) (by rw [Rd_expect, Nat.zero_add])) $$ [Hat Hc HO]
  · isplitr; · iapply (inv_at m K (c, k₀)); iexact HR
    isplitl [Hc]; · iexact Hc
    isplitl [HO]; · iexact HO
    isplitr
    · iapply (mayWait_of_lt c (csem k₀) a b d (lvK k₀) (le_of_eq (lv_kcell c k₀)) hA hB hC); iexact HL
    iexact Hat
  iintro ⟨HO, Hat, -, Hpay⟩
  imod (Rounds.cell_close ER (Rd m) (Set.mem_univ (K (c, k₀))) (fun h => h) (R := 0 + 1) (Rd_duties_later m (kcell (c, k₀)))) $$ [Hat] with Hz
  · isplitr; · iapply (inv_at m K (c, k₀)); iexact HR
    iexact Hat
  iapply Hk
  isplitl [HO]; · iexists _; iexact HO
  isplitl [Hz]; · iexact Hz
  iapply (Entails.of_eq (show bigSep ((Rd m).duties (kcell (c, k₀)) 0 \ ∅) (fun d => (Rd m).payload (kcell (c, k₀)) 0 d)
      = bigSep (dutiesOf k₀) (fun d => pay (F := F) m c d k₀) by
    rw [Finset.sdiff_empty, Rd_duties]; exact bigSep_congr fun d _ => Rd_payload m c k₀ 0 d))
  iexact Hpay

/-- The wait for the seven signals. -/
theorem wp_bar (c : Dev nD) (n : ℕ) (hn : n = 7)
    {α : Type} {k : PUnit → Prog (TpuEff nD τ sig (Elt F) Λ₀ .tc) α} {Q : α → sProp 𝕄} :
    iprop(records m K ∗ levAts L lv ∗ Ow c 7 7 7 ∗ Wt c none)
      ⊢ iprop(((Ow c 7 7 7 ∗ Got m c none) -∗ WP c (k ⟨⟩) Q) -∗ WP c (.op (.semWait barS n) k) Q) :=
  wp_wait m K c none 7 7 7 (by decide) (by decide) (by decide) n (wpE_semWait_eq 𝒱₀ (c : Thread nD τ) none Set.univ)
    (hn.trans (by decide))

/-- Slot `j` of array `a`, waited for in the order of the slots: those up to `n` done. -/
def StUp (c : Dev nD) (a : Fin 4) (d n : ℕ) : sProp 𝕄 :=
  iprop(Ow c 7 0 d ∗ Up n (fun j => Wt (F := F) c (some (a, j))) ∗ Lo n (fun j => Got m c (some (a, j))))
/-- The same against the order of the slots: those above `n` done. -/
def StLo (c : Dev nD) (a : Fin 4) (d n : ℕ) : sProp 𝕄 :=
  iprop(Ow c 7 0 d ∗ Lo n (fun j => Wt (F := F) c (some (a, j))) ∗ Up n (fun j => Got m c (some (a, j))))

theorem dutiesOf_slot (a : Fin 4) (j : ℕ) (h : 0 < j) (hj : j < 8) : dutiesOf (some (a, ⟨j, hj⟩)) = {0} := by
  unfold dutiesOf; exact if_neg fun e => by have := congrArg Fin.val e; simp at this; omega

theorem wp_waitUp (c : Dev nD) (a : Fin 4) (d n j : ℕ) (e : j = n + 1) (hj : j < 8) (A : DmaSems sig S8) (hA : arr a = A)
    (hC : 0 < d → lvK (some (a, ⟨j, hj⟩)) < 3)
    {src dst : Memref sig .tc .vmem S64x512 .bf16} {hs : src.view.WordExact} {hd : dst.view.WordExact}
    (hc : dst.view.dmaCredit = unitsOf (some (a, ⟨j, hj⟩)))
    {α : Type} {k : PUnit → Prog (TpuEff nD τ sig (Elt F) Λ₀ .tc) α} {Q : α → sProp 𝕄} :
    iprop(records m K ∗ levAts L lv ∗ StUp m c a d n)
      ⊢ iprop((StUp m c a d j -∗ WP c (k ⟨⟩) Q) -∗ WP c (.op (.waitDma2 (semAt A j hj) src dst hs hd) k) Q) := by
  subst e hA
  unfold StUp
  rw [Up_succ n hj, Lo_succ n hj]
  iintro ⟨#HR, #HL, HO, ⟨Hw, Hup⟩, Hlo⟩ Hk
  iapply (wp_wait m K c (some (a, ⟨n + 1, hj⟩)) 7 0 d (fun h => absurd h (Nat.lt_irrefl 7)) (fun h => absurd h (Nat.lt_irrefl 0)) hC dst.view.dmaCredit
    (wpE_waitDma2_eq 𝒱₀ (c : Thread nD τ) none Set.univ) (by rw [dutiesOf_slot a (n + 1) (Nat.succ_pos n) hj, Finset.card_singleton, Nat.one_mul]; exact hc)) $$ [HO Hw]
  · isplitr; · iexact HR
    isplitr; · iexact HL
    isplitl [HO] <;> iassumption
  iintro ⟨HO, Hg⟩
  iapply Hk
  isplitl [HO]; · iexact HO
  isplitl [Hup]; · iexact Hup
  isplitl [Hg] <;> iassumption

theorem wp_waitLo (c : Dev nD) (a : Fin 4) (d n j : ℕ) (e : j = n + 1) (hj : j < 8) (A : DmaSems sig S8) (hA : arr a = A)
    (hC : 0 < d → lvK (some (a, ⟨j, hj⟩)) < 3)
    {src dst : Memref sig .tc .vmem S64x512 .bf16} {hs : src.view.WordExact} {hd : dst.view.WordExact}
    (hc : dst.view.dmaCredit = unitsOf (some (a, ⟨j, hj⟩)))
    {α : Type} {k : PUnit → Prog (TpuEff nD τ sig (Elt F) Λ₀ .tc) α} {Q : α → sProp 𝕄} :
    iprop(records m K ∗ levAts L lv ∗ StLo m c a d j)
      ⊢ iprop((StLo m c a d n -∗ WP c (k ⟨⟩) Q) -∗ WP c (.op (.waitDma2 (semAt A j hj) src dst hs hd) k) Q) := by
  subst e hA
  unfold StLo
  rw [Up_succ n hj, Lo_succ n hj]
  iintro ⟨#HR, #HL, HO, ⟨Hw, Hlo⟩, Hup⟩ Hk
  iapply (wp_wait m K c (some (a, ⟨n + 1, hj⟩)) 7 0 d (fun h => absurd h (Nat.lt_irrefl 7)) (fun h => absurd h (Nat.lt_irrefl 0)) hC dst.view.dmaCredit
    (wpE_waitDma2_eq 𝒱₀ (c : Thread nD τ) none Set.univ) (by rw [dutiesOf_slot a (n + 1) (Nat.succ_pos n) hj, Finset.card_singleton, Nat.one_mul]; exact hc)) $$ [HO Hw]
  · isplitr; · iexact HR
    isplitr; · iexact HL
    isplitl [HO] <;> iassumption
  iintro ⟨HO, Hg⟩
  iapply Hk
  isplitl [HO]; · iexact HO
  isplitl [Hlo]; · iexact Hlo
  isplitl [Hg] <;> iassumption

end Cert.KernelIdeal.Run

end
-- ==== Proof.Rows.lean ====
/-
# The steps of the body: the rows made, sent and read

What the stores, the copies and the loads of rows and blocks leave in the buffers, and the steps of the first phase:
a row's old contents read to no use, the row made, the row sent.
-/
module

public import proofs.«01_k».proof.Proof.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (K : Dev nD × Kx → ℕ)

/-! ## What a copy, a store and a load do to the contents -/

/-- Copying row `j` of one eight-row buffer onto row `j` of the other leaves the source's elements there. -/
theorem row_copied (j : ℕ) (hj : j < 8) (fd fs : S8x64x512.Idx → Elt F .bf16) :
    ∀ i ∈ rowSet j hj, (rowM rsM j hj).view.write (Elt F) fd ((rowM sgM j hj).view.read (Elt F) fs) Finset.univ i = fs i := by
  intro i hi
  rw [← rowM_set_rs] at hi
  obtain ⟨x, -, rfl⟩ := Finset.mem_map.mp hi
  exact View.write_emb_of_mem _ _ (Finset.mem_univ x)

/-- Copying a block of the result onto the same block leaves the source's elements there. -/
theorem blk_copied (d : Dev nD) (fd fs : S512x512.Idx → Elt F .bf16) :
    ∀ i ∈ outSet d, (blkM d).view.write (Elt F) fd ((blkM d).view.read (Elt F) fs) Finset.univ i = fs i := by
  intro i hi
  rw [← blkM_set] at hi
  obtain ⟨x, -, rfl⟩ := Finset.mem_map.mp hi
  exact View.write_emb_of_mem _ _ (Finset.mem_univ x)

/-- An index of one row, by its place in the row. -/
theorem row_idx (j : ℕ) (hj : j < 8) (x : S1x64x512.Idx) :
    (rowRect j hj).emb x = (ix3 ⟨j, hj⟩ (x 1) (x 2) : S8x64x512.Idx) := by
  have h0 : (x 0).val = 0 := by have := (x 0).isLt; simp at this; omega
  funext a; apply Fin.ext; rw [Rect.emb_apply]
  fin_cases a <;> simp [h0]
theorem row_ix (x : S1x64x512.Idx) : (ix3 0 (x 1) (x 2) : S1x64x512.Idx) = x := by
  have h0 : (x 0).val = 0 := by have := (x 0).isLt; simp at this; omega
  funext a; apply Fin.ext
  fin_cases a <;> simp [h0]

/-- Storing a part in row `j` leaves it there. -/
theorem row_stored (c : Dev nD) (j : ℕ) (hj : j < 8) (f : S8x64x512.Idx → Elt F .bf16) :
    ∀ i ∈ rowSet j hj, (sgM.access (rowRect j hj)).write (Elt F) f (part m c (dn c ⟨j, hj⟩)) Finset.univ i = SG m c i := by
  intro i hi
  rw [rowSet, ← Rect.map_emb_univ] at hi
  obtain ⟨x, -, rfl⟩ := Finset.mem_map.mp hi
  refine (View.write_emb_of_mem (v := sgM.access (rowRect j hj)) f _ (Finset.mem_univ x)).trans ?_
  rw [row_idx]
  show _ = part m c (dn c ⟨j, hj⟩) (ix3 0 (x 1) (x 2))
  rw [row_ix]
  rfl

/-- Loading row `j` of the landing buffer reads the part that landed there. -/
theorem row_loaded (c : Dev nD) (j : ℕ) (hj : j < 8) :
    (rsM.access (rowRect j hj)).read (Elt F) (RS m c) = part m (up c ⟨j, hj⟩) c := by
  funext x
  show RS m c ((rowRect j hj).emb x) = _
  rw [row_idx]
  show part m (up c ⟨j, hj⟩) c (ix3 0 (x 1) (x 2)) = _
  rw [row_ix]

/-- What `c` sends in row `j` is what the device `j` places before it receives there. -/
theorem sent_landed (c : Dev nD) (j : ℕ) (hj : j < 8) : ∀ i ∈ rowSet j hj, SG m c i = RS m (dn c ⟨j, hj⟩) i := by
  intro i hi
  have h0 : i 0 = (⟨j, hj⟩ : Fin 8) := Fin.ext ((mem_rowSet j hj i).mp hi)
  unfold SG RS
  rw [h0, up_dn]

theorem blk_lt (d : Dev nD) (x : S64x512.Idx) : 64 * d.val + (x 0).val < 512 := by
  have h1 : (x 0).val < 64 := (x 0).isLt
  have h2 : d.val < 8 := d.isLt
  omega
/-- An index of one block of the result, by its place in the block. -/
theorem blk_idx (d : Dev nD) (o : Fin 2 → Nat) (ho : o = k0_off4 d) (h : ∀ a, o a + S64x512.size a ≤ S512x512.size a) (x : S64x512.Idx) :
    (Rect.unit (s := S512x512) o S64x512.size h).emb x
      = (ix2 ⟨64 * d.val + (x 0).val, blk_lt d x⟩ (x 1) : S512x512.Idx) := by
  subst ho
  have h0 : k0_off4 d 0 = 64 * d.val := congrFun (k0_off4_eq d) 0
  have h1 : k0_off4 d 1 = 0 := congrFun (k0_off4_eq d) 1
  refine funext fun a => Fin.ext ?_
  rw [Rect.emb_apply, Rect.off_unit, Rect.stride_unit]
  fin_cases a
  · show k0_off4 d 0 + 1 * (x 0).val = 64 * d.val + (x 0).val
    rw [h0, Nat.one_mul]
  · show k0_off4 d 1 + 1 * (x 1).val = (x 1).val
    rw [h1, Nat.one_mul, Nat.zero_add]

/-- Storing the reduced block leaves the result's block. -/
theorem blk_stored (c : Dev nD) (o : Fin 2 → Nat) (ho : o = k0_off4 c) (h : ∀ a, o a + S64x512.size a ≤ S512x512.size a)
    (f : S512x512.Idx → Elt F .bf16) :
    ∀ i ∈ outSet c, (outM.access (Rect.unit (s := S512x512) o S64x512.size h)).write (Elt F) f (red m c) Finset.univ i = OUT m i := by
  intro i hi
  have hi' : i ∈ (Rect.unit (s := S512x512) o S64x512.size h).set := by subst ho; exact hi
  rw [← Rect.map_emb_univ] at hi'
  obtain ⟨x, -, rfl⟩ := Finset.mem_map.mp hi'
  refine (View.write_emb_of_mem (v := outM.access (Rect.unit (s := S512x512) o S64x512.size h)) f _ (Finset.mem_univ x)).trans ?_
  rw [blk_idx c o ho h]
  have hx : (x 0).val < 64 := by have := (x 0).isLt; simpa using this
  unfold OUT
  have e1 : (⟨(64 * c.val + (x 0).val) / 64, Nat.div_lt_of_lt_mul (blk_lt c x)⟩ : Dev nD) = c := Fin.ext (by show (64 * c.val + (x 0).val) / 64 = c.val; omega)
  have e2 : (ix2 ⟨(64 * c.val + (x 0).val) % 64, Nat.mod_lt _ (by decide)⟩ (x 1) : S64x512.Idx) = x := by
    funext a; apply Fin.ext
    fin_cases a
    · show (64 * c.val + (x 0).val) % 64 = (x 0).val; omega
    · rfl
  show red m c x = red m ⟨(64 * c.val + (x 0).val) / 64, _⟩ (ix2 ⟨(64 * c.val + (x 0).val) % 64, _⟩ (x 1))
  rw [e1, e2]

/-! ## The rows sent -/

/-- What a device needs besides row `j` itself to send it: the landing row of the device `j` places before it, and the
    rights to both semaphores of the copy. -/
def RowD (c : Dev nD) (j : Fin 8) : sProp 𝕄 :=
  iprop((∃ f, rsRow (F := F) (dn c j) j f) ∗ dutyTok ER (s1C c j) 0 0 ∗ dutyTok ER (p1C (dn c j) j) 0 0)
/-- That and the row, not yet made. -/
def Row (c : Dev nD) (j : Fin 8) : sProp 𝕄 := iprop((∃ f, sgRow (F := F) c j f) ∗ RowD c j)
/-- The rows above slot `b` sent. -/
def StB (c : Dev nD) (b : ℕ) : sProp 𝕄 :=
  iprop(Ow c 7 b 7 ∗ Lo b (Row (F := F) c) ∗ Up b (fun j => cred (tallyAt (s1C c j) () N1)))
/-- The rows above slot `j` sent and that of slot `j` made. -/
def StB' (c : Dev nD) (b j : ℕ) (hj : j < 8) : sProp 𝕄 :=
  iprop(Ow c 7 j 7 ∗ (sgRow c ⟨j, hj⟩ (SG m c) ∗ RowD (F := F) c ⟨j, hj⟩) ∗ Lo b (Row (F := F) c) ∗ Up j (fun j => cred (tallyAt (s1C c j) () N1)))

/-- The row's old contents are read, to no use. -/
theorem wp_rowOld (c : Dev nD) (b j : ℕ) (e : j = b + 1) (hj : j < 8) {α : Type} {hl : sgM.view.LoadsAt (rowRect j hj).toLoadRect}
    {k : (S1x64x512.Idx → Elt F .bf16) → Prog (TpuEff nD τ sig (Elt F) Λ₀ .tc) α} {Q : α → sProp 𝕄} :
    StB (F := F) c j ⊢ iprop((∀ v, StB (F := F) c j -∗ WP c (k v) Q)
      -∗ WP c (.op (.load sgM (rowRect j hj).toLoadRect hl) k) Q) := by
  subst e
  unfold StB
  rw [Lo_succ b hj]
  unfold Row sgRow
  iintro ⟨HO, ⟨⟨⟨%f, Hrow⟩, Hd⟩, Hlo⟩, Hup⟩ Hk
  iapply (wp_load_rect 𝒱₀ (c : Thread nD τ) none Set.univ (m := sgM) (r := rowRect (b + 1) hj) (by rw [View.set_slice_whole])) $$ Hrow
  iintro Hrow
  iapply Hk
  isplitl [HO]; · iexact HO
  isplitr [Hup]
  · isplitr [Hlo]
    · isplitl [Hrow]
      · iexists f; iexact Hrow
      · iexact Hd
    · iexact Hlo
  · iexact Hup

/-- The row is made. -/
theorem wp_rowMade (c : Dev nD) (b j : ℕ) (e : j = b + 1) (hj : j < 8) (v : S1x64x512.Idx → Elt F .bf16) (hv : v = part m c (dn c ⟨j, hj⟩))
    {α : Type} {hx : (sgM.access (rowRect j hj)).Stores Finset.univ} {hm}
    {k : PUnit → Prog (TpuEff nD τ sig (Elt F) Λ₀ .tc) α} {Q : α → sProp 𝕄} :
    StB (F := F) c j ⊢ iprop((StB' m c b j hj -∗ WP c (k ⟨⟩) Q)
      -∗ WP c (.op (.store sgM (rowRect j hj) v Finset.univ hx hm) k) Q) := by
  subst e hv
  unfold StB StB'
  rw [Lo_succ b hj]
  unfold Row sgRow
  iintro ⟨HO, ⟨⟨⟨%f, Hrow⟩, Hd⟩, Hlo⟩, Hup⟩ Hk
  iapply (wp_store 𝒱₀ (c : Thread nD τ) none Set.univ (m := sgM) (r := rowRect (b + 1) hj) (Mk := Finset.univ) (by rw [View.setOn_univ, View.set_slice_whole])) $$ Hrow
  iintro Hrow
  iapply Hk
  isplitl [HO]; · iexact HO
  isplitl [Hrow Hd]
  · isplitl [Hrow]
    · iapply (Entails.of_eq (pointsTo_congr (row_stored m c (b + 1) hj f))); iexact Hrow
    · iexact Hd
  isplitl [Hlo] <;> iassumption

theorem duty_at (c : Dev nD) (a : Fin 4) (j : ℕ) (h : 0 < j) (hj : j < 8) :
    (0 : Fin 8) ∈ (Rd (F := F) m).duties (kcell (c, some (a, ⟨j, hj⟩))) 0 := by
  rw [Rd_duties, dutiesOf_slot a j h hj]; exact Finset.mem_singleton_self _
theorem row_credit (j : ℕ) (hj : j < 8) : (rowM rsM j hj).view.dmaCredit = N1 := rfl
/-- The row comes back whatever it holds. -/
theorem row_pay₁ (c : Dev nD) (j : ℕ) (hj : j < 8) :
    ((rowM sgM j hj).view.loc (c : Thread nD τ) ↦[(rowM sgM j hj).view.set]{fullShare} (SG m c))
      ⊢ (Rd (F := F) m).payload (s1C c ⟨j, hj⟩) 0 0 := by
  rw [Rd_payload, rowM_set_sg]
  unfold pay sgRow
  iintro H; iexists (SG m c); iexact H
/-- The row lands as the part meant for the receiver. -/
theorem row_pay₂ (c : Dev nD) (j : ℕ) (hj : j < 8) (fd : S8x64x512.Idx → Elt F .bf16) :
    ((rowM rsM j hj).view.loc (dn c ⟨j, hj⟩ : Thread nD τ) ↦[(rowM rsM j hj).view.set]{fullShare}
        ((rowM rsM j hj).view.write (Elt F) fd ((rowM sgM j hj).view.read (Elt F) (SG m c)) Finset.univ))
      ⊢ (Rd (F := F) m).payload (p1C (dn c ⟨j, hj⟩) ⟨j, hj⟩) 0 0 := by
  rw [Rd_payload, rowM_set_rs]
  exact Entails.of_eq (pointsTo_congr fun i hi => (row_copied j hj fd (SG m c) i hi).trans (sent_landed m c j hj i hi))

/-- The row is sent. -/
theorem wp_rowSent (c : Dev nD) (b j : ℕ) (e : j = b + 1) (hj : j < 8) (n : Dev nD) (hn : n = dn c ⟨j, hj⟩)
    {hsc : (rowM rsM j hj).view.ref.isScScratch = false}
    {hsrc : (rowM sgM j hj).view.WordExact} {hdst : (rowM rsM j hj).view.WordExact}
    {hsem : DmaTarget.Typed .vmem (.dma (semAt cc0_scratch4 j hj)) (.remote (Dev.tc n : Thread nD τ) (rowM rsM j hj) (.dma (semAt cc0_scratch3 j hj)) hsc)}
    {α : Type} {k : PUnit → Prog (TpuEff nD τ sig (Elt F) Λ₀ .tc) α} {Q : α → sProp 𝕄} :
    iprop(records m K ∗ StB' m c b j hj) ⊢ iprop((StB (F := F) c b -∗ WP c (k ⟨⟩) Q)
      -∗ WP c (.op (.enqueueDma (rowM sgM j hj) (.remote (Dev.tc n : Thread nD τ) (rowM rsM j hj) (.dma (semAt cc0_scratch3 j hj)) hsc)
          (.dma (semAt cc0_scratch4 j hj)) hsrc hdst hsem) k) Q) := by
  subst e hn
  unfold StB StB'
  rw [Up_succ b hj]
  unfold RowD Ow sgRow rsRow
  iintro ⟨#HR, ⟨%W, HO⟩, ⟨Hrow, ⟨%fd, Hland⟩, Ht1, Ht2⟩, Hlo, Hup⟩ Hk
  ihave Hrow := (Entails.of_eq (congrArg (fun S => ((c : Thread nD τ).loc cc0_scratch1) ↦[S]{fullShare} (SG m c)) (rowM_set_sg (b + 1) hj).symm)) $$ Hrow
  ihave Hland := (Entails.of_eq (congrArg (fun S => ((dn c ⟨b + 1, hj⟩ : Thread nD τ).loc cc0_scratch2) ↦[S]{fullShare} fd) (rowM_set_rs (b + 1) hj).symm)) $$ Hland
  iapply (Rounds.wp_send_pointsTo 𝒱₀ ER (Rd m) (c : Thread nD τ) none (c' := (dn c ⟨b + 1, hj⟩ : Thread nD τ))
    (src := rowM sgM (b + 1) hj) (dst := rowM rsM (b + 1) hj) (sS := .dma (semAt cc0_scratch3 (b + 1) hj)) (sem := .dma (semAt cc0_scratch4 (b + 1) hj))
    (κ₁ := K (c, some (0, ⟨b + 1, hj⟩))) (κ₂ := K (dn c ⟨b + 1, hj⟩, some (1, ⟨b + 1, hj⟩)))
    (r₁ := 0) (r₂ := 0) (d₁ := 0) (d₂ := 0) (q := fullShare) (fs := SG m c) (fd := fd)
    (duty_at m c 0 (b + 1) (Nat.succ_pos b) hj) (duty_at m (dn c ⟨b + 1, hj⟩) 1 (b + 1) (Nat.succ_pos b) hj)
    () () N1 (row_credit (b + 1) hj) (Rd_amount m c (some (0, ⟨b + 1, hj⟩)) 0 0) (Rd_amount m (dn c ⟨b + 1, hj⟩) (some (1, ⟨b + 1, hj⟩)) 0 0)
    (owe c 7 b 7) (owe_row c 7 b 7 hj) (W := W) (row_pay₁ m c (b + 1) hj) (row_pay₂ m c (b + 1) hj fd)) $$ [HO Hrow Hland Ht1 Ht2]
  · isplitr; · iapply (inv_at m K (c, some (0, ⟨b + 1, hj⟩))); iexact HR
    isplitr; · iapply (inv_at m K (dn c ⟨b + 1, hj⟩, some (1, ⟨b + 1, hj⟩))); iexact HR
    isplitl [Hrow]; · iexact Hrow
    isplitl [Hland]; · iexact Hland
    isplitl [HO]; · iexact HO
    isplitl [Ht1]; · iexact Ht1
    isplitr; · iapply (reached_at m K (c, some (0, ⟨b + 1, hj⟩))); iexact HR
    isplitl [Ht2]; · iexact Ht2
    iapply (reached_at m K (dn c ⟨b + 1, hj⟩, some (1, ⟨b + 1, hj⟩))); iexact HR
  iintro ⟨Hc, HO⟩
  iapply Hk
  isplitl [HO]; · iexists W; iexact HO
  isplitl [Hlo]; · iexact Hlo
  isplitl [Hc] <;> iassumption

end Cert.KernelIdeal.Run

end
-- ==== Proof.Blocks.lean ====
/-
# The steps of the body: the rows read, the block made and sent
-/
module

public import proofs.«01_k».proof.Proof.Rows

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (K : Dev nD × Kx → ℕ)

/-! ## What a wait has handed over -/

theorem Got_slot (c : Dev nD) (a : Fin 4) (j : Fin 8) (hj : j ∈ J) :
    Got m c (some (a, j)) = iprop(semVal (kcell (c, some (a, j))) 0 ∗ pay (F := F) m c 0 (some (a, j))) := by
  unfold Got
  rw [show dutiesOf (some (a, j)) = {0} from if_neg (Finset.ne_of_mem_erase hj), bigSep_singleton]

theorem Wt_slot (c : Dev nD) (a : Fin 4) (j : Fin 8) (hj : j ∈ J) (n : ℕ) (hn : n = unitsOf (some (a, j))) :
    Wt (F := F) c (some (a, j)) = iprop(atPos ER (kcell (c, some (a, j))) 0 ∅ 0 ∗ cred (tallyAt (kcell (c, some (a, j))) () n)) := by
  unfold Wt
  rw [show dutiesOf (some (a, j)) = {0} from if_neg (Finset.ne_of_mem_erase hj), Finset.card_singleton, Nat.one_mul, hn]

/-- A landed row is read. -/
theorem wp_rowRead (c : Dev nD) (j : ℕ) (h : 0 < j) (hj : j < 8) {hl : rsM.view.LoadsAt (rowRect j hj).toLoadRect}
    {α : Type} {k : (S1x64x512.Idx → Elt F .bf16) → Prog (TpuEff nD τ sig (Elt F) Λ₀ .tc) α} {Q : α → sProp 𝕄} :
    StUp m c 1 7 7 ⊢ iprop((StUp m c 1 7 7 -∗ WP c (k (part m (up c ⟨j, hj⟩) c)) Q)
      -∗ WP c (.op (.load rsM (rowRect j hj).toLoadRect hl) k) Q) := by
  unfold StUp
  rw [Lo_seven, show bigSep J (fun j => Got m c (some (1, j))) = iprop(Got m c (some (1, ⟨j, hj⟩)) ∗ bigSep (J.erase ⟨j, hj⟩) (fun j => Got m c (some (1, j))))
    from bigSep_erase (mem_J h hj), Got_slot m c 1 ⟨j, hj⟩ (mem_J h hj)]
  unfold pay rsRow
  iintro ⟨HO, Hup, ⟨Hz, Hrow⟩, Hlo⟩ Hk
  iapply (wp_load_rect 𝒱₀ (c : Thread nD τ) none Set.univ (m := rsM) (r := rowRect j hj) (by rw [View.set_slice_whole])) $$ Hrow
  iintro Hrow
  rw [row_loaded]
  iapply Hk
  isplitl [HO]; · iexact HO
  isplitl [Hup]; · iexact Hup
  isplitr [Hlo]
  · isplitl [Hz] <;> iassumption
  · iexact Hlo

/-- A block of the gated tokens is read. -/
theorem wp_tokens (c b : Dev nD) (f : FVec F S512x1024 .bf16) (o : Fin 2 → Nat) (ho : o = k0_off2 b)
    {inb : ∀ a, o a + S64x1024.size a ≤ S512x1024.size a}
    {hl : xcM.view.LoadsAt (Rect.unit (s := S512x1024) o S64x1024.size inb).toLoadRect}
    {α : Type} {k : (S64x1024.Idx → Elt F .bf16) → Prog (TpuEff nD τ sig (Elt F) Λ₀ .tc) α} {Q : α → sProp 𝕄} :
    ((((c : Thread nD τ).loc cc0_scratch0) ↦{fullShare} f) : sProp 𝕄)
      ⊢ iprop(((((c : Thread nD τ).loc cc0_scratch0) ↦{fullShare} f) -∗ WP c (k (xblk f b)) Q)
        -∗ WP c (.op (.load xcM (Rect.unit (s := S512x1024) o S64x1024.size inb).toLoadRect hl) k) Q) := by
  subst ho
  exact wp_load 𝒱₀ (c : Thread nD τ) none Set.univ (m := xcM) (Finset.subset_univ _)

/-! ## The blocks sent -/

/-- What a device needs to send its block by slot `j`: a share of the block, the place for it at the device `j` places
    before, and the rights to both semaphores of the copy. -/
def BlkD (c : Dev nD) (j : Fin 8) : sProp 𝕄 :=
  iprop((∃ f, outBlk (F := F) fullShare (dn c j) c f) ∗ dutyTok ER (s2C c j) 0 0 ∗ dutyTok ER (p2C (dn c j) j) 0 0)
def Blk (c : Dev nD) (j : Fin 8) : sProp 𝕄 :=
  iprop(outBlk (Transfers.dealOf fullShare J j) c c (OUT m) ∗ BlkD (F := F) c j)
/-- The blocks of the slots above `b` sent. -/
def StD (c : Dev nD) (b : ℕ) : sProp 𝕄 :=
  iprop(Ow c 7 0 b ∗ Lo b (Blk m c) ∗ Up b (fun j => cred (tallyAt (s2C c j) () N2)))

theorem blk_credit (c : Dev nD) : (blkM c).view.dmaCredit = N2 := rfl
theorem blk_pay₁ (c : Dev nD) (j : Fin 8) :
    ((blkM c).view.loc (c : Thread nD τ) ↦[(blkM c).view.set]{Transfers.dealOf fullShare J j} (OUT m))
      ⊢ (Rd (F := F) m).payload (s2C c j) 0 0 := by
  rw [Rd_payload, blkM_set]; exact BI.Entails.refl _
/-- The block lands as the block of the result it is. -/
theorem blk_pay₂ (c : Dev nD) (j : Fin 8) (fd : S512x512.Idx → Elt F .bf16) :
    ((blkM c).view.loc (dn c j : Thread nD τ) ↦[(blkM c).view.set]{fullShare}
        ((blkM c).view.write (Elt F) fd ((blkM c).view.read (Elt F) (OUT m)) Finset.univ))
      ⊢ (Rd (F := F) m).payload (p2C (dn c j) j) 0 0 := by
  rw [Rd_payload, blkM_set]
  show _ ⊢ outBlk fullShare (dn c j) (up (dn c j) j) (OUT m)
  rw [up_dn]
  exact Entails.of_eq (pointsTo_congr (blk_copied c fd (OUT m)))

/-- A block is sent. -/
theorem wp_blkSent (c : Dev nD) (b j : ℕ) (e : j = b + 1) (hj : j < 8) (n : Dev nD) (hn : n = dn c ⟨j, hj⟩)
    {hsc : (blkM c).view.ref.isScScratch = false}
    {hsrc : (blkM c).view.WordExact} {hdst : (blkM c).view.WordExact}
    {hsem : DmaTarget.Typed .vmem (.dma (semAt cc0_scratch6 j hj)) (.remote (Dev.tc n : Thread nD τ) (blkM c) (.dma (semAt cc0_scratch5 j hj)) hsc)}
    {α : Type} {k : PUnit → Prog (TpuEff nD τ sig (Elt F) Λ₀ .tc) α} {Q : α → sProp 𝕄} :
    iprop(records m K ∗ StD m c j) ⊢ iprop((StD m c b -∗ WP c (k ⟨⟩) Q)
      -∗ WP c (.op (.enqueueDma (blkM c) (.remote (Dev.tc n : Thread nD τ) (blkM c) (.dma (semAt cc0_scratch5 j hj)) hsc)
          (.dma (semAt cc0_scratch6 j hj)) hsrc hdst hsem) k) Q) := by
  subst e hn
  unfold StD
  rw [Up_succ b hj, Lo_succ b hj]
  unfold Blk BlkD Ow outBlk
  iintro ⟨#HR, ⟨%W, HO⟩, ⟨⟨Hsrc, ⟨%fd, Hland⟩, Ht1, Ht2⟩, Hlo⟩, Hup⟩ Hk
  ihave Hsrc := (Entails.of_eq (congrArg (fun S => ((c : Thread nD τ).loc cc0_stg4_0) ↦[S]{Transfers.dealOf fullShare J ⟨b + 1, hj⟩} (OUT m)) (blkM_set c).symm)) $$ Hsrc
  ihave Hland := (Entails.of_eq (congrArg (fun S => ((dn c ⟨b + 1, hj⟩ : Thread nD τ).loc cc0_stg4_0) ↦[S]{fullShare} fd) (blkM_set c).symm)) $$ Hland
  iapply (Rounds.wp_send_pointsTo 𝒱₀ ER (Rd m) (c : Thread nD τ) none (c' := (dn c ⟨b + 1, hj⟩ : Thread nD τ))
    (src := blkM c) (dst := blkM c) (sS := .dma (semAt cc0_scratch5 (b + 1) hj)) (sem := .dma (semAt cc0_scratch6 (b + 1) hj))
    (κ₁ := K (c, some (2, ⟨b + 1, hj⟩))) (κ₂ := K (dn c ⟨b + 1, hj⟩, some (3, ⟨b + 1, hj⟩)))
    (r₁ := 0) (r₂ := 0) (d₁ := 0) (d₂ := 0) (q := Transfers.dealOf fullShare J ⟨b + 1, hj⟩) (fs := OUT m) (fd := fd)
    (duty_at m c 2 (b + 1) (Nat.succ_pos b) hj) (duty_at m (dn c ⟨b + 1, hj⟩) 3 (b + 1) (Nat.succ_pos b) hj)
    () () N2 (blk_credit c) (Rd_amount m c (some (2, ⟨b + 1, hj⟩)) 0 0) (Rd_amount m (dn c ⟨b + 1, hj⟩) (some (3, ⟨b + 1, hj⟩)) 0 0)
    (owe c 7 0 b) (owe_blk c 7 0 b hj) (W := W) (blk_pay₁ m c ⟨b + 1, hj⟩) (blk_pay₂ m c ⟨b + 1, hj⟩ fd)) $$ [HO Hsrc Hland Ht1 Ht2]
  · isplitr; · iapply (inv_at m K (c, some (2, ⟨b + 1, hj⟩))); iexact HR
    isplitr; · iapply (inv_at m K (dn c ⟨b + 1, hj⟩, some (3, ⟨b + 1, hj⟩))); iexact HR
    isplitl [Hsrc]; · iexact Hsrc
    isplitl [Hland]; · iexact Hland
    isplitl [HO]; · iexact HO
    isplitl [Ht1]; · iexact Ht1
    isplitr; · iapply (reached_at m K (c, some (2, ⟨b + 1, hj⟩))); iexact HR
    isplitl [Ht2]; · iexact Ht2
    iapply (reached_at m K (dn c ⟨b + 1, hj⟩, some (3, ⟨b + 1, hj⟩))); iexact HR
  iintro ⟨Hc, HO⟩
  iapply Hk
  isplitl [HO]; · iexists W; iexact HO
  isplitl [Hlo]; · iexact Hlo
  isplitl [Hc] <;> iassumption

/-! ## The own block -/

/-- The block's old contents are read, to no use. -/
theorem wp_blkOld (c : Dev nD) (o : Fin 2 → Nat) (ho : o = k0_off4 c) {inb : ∀ a, o a + S64x512.size a ≤ S512x512.size a}
    {hl : outM.view.LoadsAt (Rect.unit (s := S512x512) o S64x512.size inb).toLoadRect}
    {α : Type} {k : (S64x512.Idx → Elt F .bf16) → Prog (TpuEff nD τ sig (Elt F) Λ₀ .tc) α} {Q : α → sProp 𝕄} :
    iprop(∃ f, outBlk (F := F) fullShare c c f) ⊢ iprop((∀ v, iprop(∃ f, outBlk (F := F) fullShare c c f) -∗ WP c (k v) Q)
      -∗ WP c (.op (.load outM (Rect.unit (s := S512x512) o S64x512.size inb).toLoadRect hl) k) Q) := by
  subst ho
  unfold outBlk
  iintro ⟨%f, H⟩ Hk
  iapply (wp_load_rect 𝒱₀ (c : Thread nD τ) none Set.univ (m := outM) (r := outRect c) (by rw [View.set_slice_whole])) $$ H
  iintro H
  iapply Hk
  iexists f; iexact H

/-- The reduced block is stored, and dealt to the seven copies. -/
theorem wp_blkMade (c : Dev nD) (o : Fin 2 → Nat) (ho : o = k0_off4 c) {inb : ∀ a, o a + S64x512.size a ≤ S512x512.size a}
    {hx : (outM.access (Rect.unit (s := S512x512) o S64x512.size inb)).Stores Finset.univ} {hm}
    {α : Type} {k : PUnit → Prog (TpuEff nD τ sig (Elt F) Λ₀ .tc) α} {Q : α → sProp 𝕄} :
    iprop(∃ f, outBlk (F := F) fullShare c c f)
      ⊢ iprop((bigSep J (fun j => outBlk (Transfers.dealOf fullShare J j) c c (OUT m)) -∗ WP c (k ⟨⟩) Q)
        -∗ WP c (.op (.store outM (Rect.unit (s := S512x512) o S64x512.size inb) (red m c) Finset.univ hx hm) k) Q) := by
  unfold outBlk
  iintro ⟨%f, H⟩ Hk
  iapply (wp_store 𝒱₀ (c : Thread nD τ) none Set.univ (m := outM) (r := Rect.unit (s := S512x512) o S64x512.size inb) (Mk := Finset.univ)
    (by subst ho; rw [View.setOn_univ, View.set_slice_whole])) $$ H
  iintro H
  iapply Hk
  iapply (Entails.of_eq ((pointsTo_congr (blk_stored m c o ho inb f)).trans (Transfers.pointsTo_deal J ⟨1, by decide⟩ fullShare))); iexact H

end Cert.KernelIdeal.Run

end
-- ==== Proof.Flow.lean ====
/-
# Running the body in steps

A step of the body changes one part of the state and leaves the rest: three forms of that, by what the step needs.
-/
module

public import proofs.«01_k».proof.Proof.Blocks

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (K : Dev nD × Kx → ℕ)

/-- A function of the body's operands, at the buffers the launch gives it. -/
abbrev atBufs {β : Type 1} (f : (a0 : Memref sig .tc .vmem S512x256 .bf16) → a0.IsWhole → (a1 : Memref sig .tc .vmem S256x32 .bf16) → a1.IsWhole → (a2 : Memref sig .tc .vmem S512x2 .i32) → a2.IsWhole → (a3 : Memref sig .tc .vmem S4x256x512 .bf16) → a3.IsWhole → (a4 : Memref sig .tc .vmem S512x512 .bf16) → a4.IsWhole → (a5 : Memref sig .tc .vmem S512x1024 .bf16) → a5.IsWhole → (a6 : Memref sig .tc .vmem S8x64x512 .bf16) → a6.IsWhole → (a7 : Memref sig .tc .vmem S8x64x512 .bf16) → a7.IsWhole → DmaSems sig S8 → DmaSems sig S8 → DmaSems sig S8 → DmaSems sig S8 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6

/-- What every step may use: the records of all cells, and the levels. -/
def E : sProp 𝕄 := iprop(records m K ∗ levAts L lv)
instance E_persistent : BI.Persistent (E (F := F) m K) := by unfold E; infer_instance

section
variable {m K}

/-- A step that needs the records and the levels. -/
theorem stepE {P P' R W W' : sProp 𝕄} (h : iprop(records m K ∗ levAts L lv ∗ P) ⊢ iprop((P' -∗ W') -∗ W)) (h₂ : iprop(E m K ∗ P' ∗ R) ⊢ W') :
    iprop(E m K ∗ P ∗ R) ⊢ W := by
  iintro ⟨#HE, HP, HQ⟩
  iapply h $$ [HP]
  · unfold E
    icases HE with ⟨#HR, #HL⟩
    isplitr; · iexact HR
    isplitr; · iexact HL
    iexact HP
  iintro HP
  iapply h₂
  isplitr; · iexact HE
  isplitl [HP] <;> iassumption

/-- A step that needs the records. -/
theorem stepR {P P' R W W' : sProp 𝕄} (h : iprop(records m K ∗ P) ⊢ iprop((P' -∗ W') -∗ W)) (h₂ : iprop(E m K ∗ P' ∗ R) ⊢ W') :
    iprop(E m K ∗ P ∗ R) ⊢ W := by
  iintro ⟨#HE, HP, HQ⟩
  iapply h $$ [HP]
  · unfold E
    icases HE with ⟨#HR, #HL⟩
    isplitr; · iexact HR
    iexact HP
  iintro HP
  iapply h₂
  isplitr; · iexact HE
  isplitl [HP] <;> iassumption

/-- A step that needs neither. -/
theorem step {P P' R W W' : sProp 𝕄} (h : P ⊢ iprop((P' -∗ W') -∗ W)) (h₂ : iprop(E m K ∗ P' ∗ R) ⊢ W') : iprop(E m K ∗ P ∗ R) ⊢ W := by
  iintro ⟨#HE, HP, HQ⟩
  iapply h $$ HP
  iintro HP
  iapply h₂
  isplitr; · iexact HE
  isplitl [HP] <;> iassumption

/-- A step that needs neither and gives a value of which nothing is known. -/
theorem stepAny {P P' R W : sProp 𝕄} {α : Type} {W' : α → sProp 𝕄} (h : P ⊢ iprop((∀ v, P' -∗ W' v) -∗ W)) (h₂ : ∀ v, iprop(E m K ∗ P' ∗ R) ⊢ W' v) :
    iprop(E m K ∗ P ∗ R) ⊢ W := by
  iintro ⟨#HE, HP, HQ⟩
  iapply h $$ HP
  iintro %v HP
  iapply (h₂ v)
  isplitr; · iexact HE
  isplitl [HP] <;> iassumption

/-- A step on the second part of the state. -/
theorem stepX {P A A' R W W' : sProp 𝕄} (h : A ⊢ iprop((A' -∗ W') -∗ W)) (h₂ : iprop(E m K ∗ P ∗ A' ∗ R) ⊢ W') : iprop(E m K ∗ P ∗ A ∗ R) ⊢ W := by
  iintro ⟨#HE, HP, HA, HQ⟩
  iapply h $$ HA
  iintro HA
  iapply h₂
  isplitr; · iexact HE
  isplitl [HP]; · iexact HP
  isplitl [HA] <;> iassumption

/-- The end of a program. -/
theorem stepRet {P : sProp 𝕄} {c : Dev nD} {α : Type} {a : α} {Q : α → sProp 𝕄} (h : P ⊢ Q a) : P ⊢ WP c (.ret a) Q := by
  unfold WP
  rw [wp_ret]
  exact h.trans fupd_intro
end

/-- A device number computed by going forward, named. -/
theorem to_up (c : Dev nD) (n : ℕ) (h : n < nD) (j : ℕ) (hj : j < 8) (e : n = (c.val + j) % 8) : (⟨n, h⟩ : Dev nD) = up c ⟨j, hj⟩ :=
  Fin.ext e
/-- Going forward by as much as is left of the ring is going back. -/
theorem to_dn (c : Dev nD) (n : ℕ) (h : n < nD) (k j : ℕ) (hk : k + j = 8) (hj : j < 8) (e : n = (c.val + k) % 8) : (⟨n, h⟩ : Dev nD) = dn c ⟨j, hj⟩ :=
  Fin.ext (e.trans (by show (c.val + k) % 8 = (c.val + 8 - j) % 8; congr 1; omega))
/-- The block of the tokens for the device `j` places before. -/
theorem off1 (c : Dev nD) (w : BitVec 32) (r : Fin 7) (hw : w = BitVec.ofNat 32 (1 + r.val)) (j : ℕ) (hk : r.val + 1 + j = 8) (hj : j < 8) :
    k0_off1 c w = k0_off2 (dn c ⟨j, hj⟩) := by
  rw [hw, k0_off1_eq, k0_off2_eq]
  show (![64 * ((c.val + r.val + 1) % 8), 0] : Fin 2 → Nat) = ![64 * ((c.val + 8 - j) % 8), 0]
  rw [show c.val + r.val + 1 = c.val + 8 - j by omega]
/-- The parts as the rows' seven places compute them: all the same function. -/
theorem pay14 (e : FVec F S4x256x512 .bf16) (x : FVec F S64x1024 .bf16) : k0_pay14 e x = k0_pay15 (k0_pay13 e) x := rfl
theorem pay15 (w : FVec F S1024x512 .bf16) (x : FVec F S64x1024 .bf16) : k0_pay15 w x = k0_pay15 w x := rfl
theorem pay16 (w : FVec F S1024x512 .bf16) (x : FVec F S64x1024 .bf16) : k0_pay16 w x = k0_pay15 w x := rfl
theorem pay17 (w : FVec F S1024x512 .bf16) (x : FVec F S64x1024 .bf16) : k0_pay17 w x = k0_pay15 w x := rfl
theorem pay18 (w : FVec F S1024x512 .bf16) (x : FVec F S64x1024 .bf16) : k0_pay18 w x = k0_pay15 w x := rfl
theorem pay19 (w : FVec F S1024x512 .bf16) (x : FVec F S64x1024 .bf16) : k0_pay19 w x = k0_pay15 w x := rfl
theorem pay20 (w : FVec F S1024x512 .bf16) (x : FVec F S64x1024 .bf16) : k0_pay20 w x = k0_pay15 w x := rfl
theorem off3 (c : Dev nD) : k0_off3 c = k0_off4 c := (k0_off3_eq c).trans (k0_off4_eq c).symm

/-! ## Parts 1 to 3: the signals, and the operands read -/

/-- The signals of slots 1 to 5. -/
theorem wp_part1 (c : Dev nD) {R : sProp 𝕄} {Q}
    (h : iprop(E m K ∗ StA c 5 ∗ R) ⊢ Q ⟨c, place c, SemArray.scalar (sig.barrier 0 rfl), Scalar.addi (place c) 6#32, 8#32⟩) :
    iprop(E m K ∗ StA c 0 ∗ R) ⊢ WP c (atBufs (k0_part1 (F := F))) Q := by
  unfold atBufs
  rw [k0_part1_eq_skeleton]
  unfold k0_part1_skel
  simp only [semSignalWord, Prog.lift, Prog.bind_op, Prog.bind_ret, Prog.pure_eq_ret, wp_deviceId]
  refine stepR (wp_sig m K c 0 1 rfl (by decide) _ (to_up c _ _ 1 (by decide) (k0_dev1_eq c)) _ rfl) ?_
  refine stepR (wp_sig m K c 1 2 rfl (by decide) _ (to_up c _ _ 2 (by decide) (k0_dev2_eq c)) _ rfl) ?_
  refine stepR (wp_sig m K c 2 3 rfl (by decide) _ (to_up c _ _ 3 (by decide) (k0_dev3_eq c)) _ rfl) ?_
  refine stepR (wp_sig m K c 3 4 rfl (by decide) _ (to_up c _ _ 4 (by decide) (k0_dev4_eq c)) _ rfl) ?_
  refine stepR (wp_sig m K c 4 5 rfl (by decide) _ (to_up c _ _ 5 (by decide) (k0_dev5_eq c)) _ rfl) ?_
  exact stepRet h

theorem h7 : 7 < 8 := by decide
theorem h6 : 6 < 8 := by decide
theorem h5 : 5 < 8 := by decide
theorem h4 : 4 < 8 := by decide
theorem h3 : 3 < 8 := by decide
theorem h2 : 2 < 8 := by decide
theorem h1 : 1 < 8 := by decide

theorem hz2 : (![0, 0] : Fin 2 → Nat) = fun _ => 0 := by decide
theorem hz3 : (![0, 0, 0] : Fin 3 → Nat) = fun _ => 0 := by decide

end Cert.KernelIdeal.Run

end
-- ==== Proof.Body1.lean ====
/-
# Parts 2 to 4 of the body: the operands read, the tokens gated, the signals waited for, the first row made
-/
module

public import proofs.«01_k».proof.Proof.Flow

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (K : Dev nD × Kx → ℕ)

/-- A buffer is read, the value read being known. -/
theorem wp_reads (c : Dev nD) {cs : CoreSpace} {s : Shape} {e : EltTy} (M : Memref sig .tc cs s e) (r : LoadRect s) (f : Buf (Elt F) (M.view.loc (c : Thread nD τ)))
    (v : r.shape.Idx → Elt F e) (hv : M.view.readAt (Elt F) r f = v) {hl : M.view.LoadsAt r}
    {α : Type} {k : (r.shape.Idx → Elt F e) → Prog (TpuEff nD τ sig (Elt F) Λ₀ .tc) α} {Q : α → sProp 𝕄} :
    ((M.view.loc (c : Thread nD τ) ↦{fullShare} f) : sProp 𝕄)
      ⊢ iprop(((M.view.loc (c : Thread nD τ) ↦{fullShare} f) -∗ WP c (k v) Q) -∗ WP c (.op (.load M r hl) k) Q) := by
  subst hv
  exact wp_load 𝒱₀ (c : Thread nD τ) none Set.univ (m := M) (Finset.subset_univ _)

/-- A buffer is written, what it then holds being known. -/
theorem wp_writes (c : Dev nD) {cs : CoreSpace} {s : Shape} {e : EltTy} (M : Memref sig .tc cs s e) (r : Rect s) (f v : Buf (Elt F) (M.view.loc (c : Thread nD τ)))
    (w : r.shape.Idx → Elt F e) (hv : (M.access r).write (Elt F) f w Finset.univ = v)
    {hx : (M.access r).Stores Finset.univ} {hm}
    {α : Type} {k : PUnit → Prog (TpuEff nD τ sig (Elt F) Λ₀ .tc) α} {Q : α → sProp 𝕄} :
    ((M.view.loc (c : Thread nD τ) ↦{fullShare} f) : sProp 𝕄)
      ⊢ iprop(((M.view.loc (c : Thread nD τ) ↦{fullShare} v) -∗ WP c (k ⟨⟩) Q) -∗ WP c (.op (.store M r w Finset.univ hx hm) k) Q) := by
  subst hv
  exact wp_store 𝒱₀ (c : Thread nD τ) none Set.univ (m := M) (r := r) (Mk := Finset.univ) (Finset.subset_univ _)

/-- The other two signals, and the operands but the weights read. -/
theorem wp_part2 (c : Dev nD) {R : sProp 𝕄} {Q}
    (h : iprop(E m K ∗ StA c 7 ∗ (((c : Thread nD τ).loc cc0_stg0_0) ↦{fullShare} (xin m c)) ∗ (((c : Thread nD τ).loc cc0_stg1_0) ↦{fullShare} (rin m c))
        ∗ (((c : Thread nD τ).loc cc0_stg2_0) ↦{fullShare} (iin m c)) ∗ R) ⊢ Q ⟨v33 m c, v46, v52 m c, v58 m c, v61 m c, v62 m c⟩) :
    iprop(E m K ∗ StA c 5 ∗ (((c : Thread nD τ).loc cc0_stg0_0) ↦{fullShare} (xin m c)) ∗ (((c : Thread nD τ).loc cc0_stg1_0) ↦{fullShare} (rin m c))
        ∗ (((c : Thread nD τ).loc cc0_stg2_0) ↦{fullShare} (iin m c)) ∗ R)
      ⊢ WP c (atBufs (k0_part2 (F := F)) c (place c) (SemArray.scalar (sig.barrier 0 rfl)) (Scalar.addi (place c) 6#32) 8#32) Q := by
  unfold atBufs
  rw [k0_part2_eq_skeleton]
  unfold k0_part2_skel
  simp only [semSignalWord, Prog.lift, Prog.bind_op, Prog.bind_ret, Prog.pure_eq_ret]
  refine stepR (wp_sig m K c 5 6 rfl (by decide) _ (to_up c _ _ 6 (by decide) (k0_dev6_eq c)) _ rfl) ?_
  refine stepR (wp_sig m K c 6 7 rfl (by decide) _ (to_up c _ _ 7 (by decide) (k0_dev7_eq c)) _ rfl) ?_
  iintro ⟨#HE, HA, H0, H1, H2, HR⟩
  iapply (wp_reads c (Memref.whole cc0_stg0_0) _ (xin m c) _ (Memref.readAt_unit_zero (Elt F) cc0_stg0_0 hz2 _ _)) $$ H0
  iintro H0
  iapply (wp_reads c (Memref.whole cc0_stg1_0) _ (rin m c) _ (Memref.readAt_unit_zero (Elt F) cc0_stg1_0 hz2 _ _)) $$ H1
  iintro H1
  iapply (wp_load 𝒱₀ (c : Thread nD τ) none Set.univ (m := Memref.whole cc0_stg2_0) (Finset.subset_univ _)) $$ H2
  iintro H2
  iapply (wp_load 𝒱₀ (c : Thread nD τ) none Set.univ (m := Memref.whole cc0_stg2_0) (Finset.subset_univ _)) $$ H2
  iintro H2
  iapply (stepRet (Q := Q) h)
  isplitr; · iexact HE
  isplitl [HA]; · iexact HA
  isplitl [H0]; · iexact H0
  isplitl [H1]; · iexact H1
  isplitl [H2] <;> iassumption

/-- The gates, computed. -/
theorem wp_part3 (c : Dev nD) {P : sProp 𝕄} {Q}
    (h : P ⊢ Q ⟨k0_pay8 (place c) (v33 m c) v46 (v52 m c) (v58 m c) (v61 m c) (v62 m c), k0_pay9 (place c) (v33 m c) v46 (v52 m c) (v58 m c) (v61 m c) (v62 m c),
      k0_pay10 (place c) (v33 m c) v46 (v52 m c) (v58 m c) (v61 m c) (v62 m c), k0_pay11 (place c) v46 (v52 m c) (v58 m c) (v61 m c) (v62 m c)⟩) :
    P ⊢ WP c (atBufs (k0_part3 (F := F)) (place c) (v33 m c) v46 (v52 m c) (v58 m c) (v61 m c) (v62 m c)) Q := by
  unfold atBufs
  rw [k0_part3_eq_skeleton]
  unfold k0_part3_skel
  exact stepRet h

/-- What a device needs of its own to make and send its row `j`: the row, and the rights to both semaphores. -/
def RowS (c : Dev nD) (j : Fin 8) : sProp 𝕄 :=
  iprop((∃ f, sgRow (F := F) c j f) ∗ dutyTok ER (s1C c j) 0 0 ∗ dutyTok ER (p1C (dn c j) j) 0 0)
/-- The rights to both semaphores of the copy of its block by slot `j`. -/
def BlkT (c : Dev nD) (j : Fin 8) : sProp 𝕄 :=
  iprop(dutyTok ER (s2C c j) 0 0 ∗ dutyTok ER (p2C (dn c j) j) 0 0)

/-- What the signals hand over: for every slot the row to fill at the device before, and the place for the block. -/
theorem landing (c : Dev nD) :
    iprop(Got m c none ∗ bigSep J (RowS (F := F) c) ∗ bigSep J (BlkT (F := F) c))
      ⊢ iprop(semVal (barC c) 0 ∗ bigSep J (Row (F := F) c) ∗ bigSep J (BlkD (F := F) c)) := by
  have key : ∀ j ∈ J, iprop(pay m c j none ∗ RowS (F := F) c j ∗ BlkT (F := F) c j) ⊢ iprop(Row (F := F) c j ∗ BlkD (F := F) c j) := by
    intro j _
    unfold pay RowS BlkT Row RowD BlkD
    iintro ⟨⟨Hrs, Hb⟩, ⟨Hsg, H1, H2⟩, H3, H4⟩
    isplitl [Hrs Hsg H1 H2]
    · isplitl [Hsg]; · iexact Hsg
      isplitl [Hrs]; · iexact Hrs
      isplitl [H1] <;> iassumption
    · isplitl [Hb]; · iexact Hb
      isplitl [H3] <;> iassumption
  unfold Got
  iintro ⟨⟨Hz, Hp⟩, HS, HT⟩
  isplitl [Hz]; · iexact Hz
  iapply (show bigSep J (fun j => iprop(pay m c j none ∗ RowS (F := F) c j ∗ BlkT (F := F) c j)) ⊢ iprop(bigSep J (Row (F := F) c) ∗ bigSep J (BlkD (F := F) c))
    from BIBase.Entails.trans (bigSep_mono key) (Entails.of_eq (bigSep_sep' J (Row (F := F) c) (BlkD (F := F) c))))
  iapply (Entails.of_eq (bigSep_sep' J (fun j => pay m c j none) (fun j => iprop(RowS (F := F) c j ∗ BlkT (F := F) c j))).symm)
  isplitl [Hp]; · iexact Hp
  iapply (Entails.of_eq (bigSep_sep' J (RowS (F := F) c) (BlkT (F := F) c)).symm)
  isplitl [HS] <;> iassumption

/-- What the body holds before its wait for the signals. -/
def Pre4 (c : Dev nD) : sProp 𝕄 :=
  iprop(StA c 7 ∗ Wt (F := F) c none ∗ bigSep J (RowS (F := F) c) ∗ bigSep J (BlkT (F := F) c))

/-- The gated tokens stored, the weights read, the signals waited for, row 7 made. -/
theorem wp_part4 (c : Dev nD) {R : sProp 𝕄} {Q}
    (h : iprop(E m K ∗ StB' m c 6 7 (by decide) ∗ (((c : Thread nD τ).loc cc0_scratch0) ↦{fullShare} (xc m c)) ∗ (((c : Thread nD τ).loc cc0_stg3_0) ↦{fullShare} (ein m c))
        ∗ (semVal (barC c) 0 ∗ bigSep J (BlkD (F := F) c)) ∗ R) ⊢ Q (wc m c)) :
    iprop(E m K ∗ Pre4 (F := F) c ∗ (∃ f, ((c : Thread nD τ).loc cc0_scratch0) ↦{fullShare} f) ∗ (((c : Thread nD τ).loc cc0_stg3_0) ↦{fullShare} (ein m c)) ∗ R)
      ⊢ WP c (atBufs (k0_part4 (F := F)) c (place c) (SemArray.scalar (sig.barrier 0 rfl)) (v33 m c)
        (k0_pay8 (place c) (v33 m c) v46 (v52 m c) (v58 m c) (v61 m c) (v62 m c)) (k0_pay9 (place c) (v33 m c) v46 (v52 m c) (v58 m c) (v61 m c) (v62 m c))
        (k0_pay10 (place c) (v33 m c) v46 (v52 m c) (v58 m c) (v61 m c) (v62 m c)) (k0_pay11 (place c) v46 (v52 m c) (v58 m c) (v61 m c) (v62 m c))) Q := by
  unfold atBufs
  rw [k0_part4_eq_skeleton]
  unfold k0_part4_skel
  simp only [semWaitWord, Prog.lift, Prog.bind_op, Prog.bind_ret, Prog.pure_eq_ret]
  unfold Pre4 StA
  rw [Up_seven]
  iintro ⟨#HE, ⟨⟨HO, -⟩, Hw, HS, HT⟩, ⟨%f, Hx⟩, H3, HR⟩
  iapply (wp_reads c (Memref.whole cc0_scratch0) _ f _ (Memref.readAt_unit_zero (Elt F) cc0_scratch0 hz2 _ _)) $$ Hx
  iintro Hx
  iapply (wp_writes c (Memref.whole cc0_scratch0) _ f (xc m c) _ (Memref.write_access_unit_zero_univ (Elt F) cc0_scratch0 hz2 _ _ _)) $$ Hx
  iintro Hx
  iapply (wp_reads c (Memref.whole cc0_stg3_0) _ (ein m c) _ (Memref.readAt_unit_zero (Elt F) cc0_stg3_0 hz3 _ _)) $$ H3
  iintro H3
  iapply (wp_bar m K c _ rfl) $$ [HO Hw]
  · unfold E
    icases HE with ⟨#HR', #HL⟩
    isplitr; · iexact HR'
    isplitr; · iexact HL
    isplitl [HO] <;> iassumption
  iintro ⟨HO, Hg⟩
  ihave HX := (landing m c) $$ [Hg HS HT]
  · isplitl [Hg]; · iexact Hg
    isplitl [HS] <;> iassumption
  icases HX with ⟨Hz, Hrow, Hblk⟩
  iapply (wp_tokens c (dn c ⟨7, by decide⟩) (xc m c) _ (off1 c 1#32 0 rfl 7 rfl (by decide))) $$ Hx
  iintro Hx
  iapply (wp_rowOld c 6 7 rfl (by decide)) $$ [HO Hrow]
  · unfold StB
    rw [Lo_seven, Up_seven]
    isplitl [HO]; · iexact HO
    isplitl [Hrow]; · iexact Hrow
    itrivial
  iintro %v HB
  iapply (wp_rowMade m c 6 7 rfl h7 _ (pay14 _ _)) $$ HB
  iintro HB
  iapply (stepRet (Q := Q) h)
  isplitr; · iexact HE
  isplitl [HB]; · iexact HB
  isplitl [Hx]; · iexact Hx
  isplitl [H3]; · iexact H3
  isplitl [Hz Hblk]
  · isplitl [Hz] <;> iassumption
  iexact HR

end Cert.KernelIdeal.Run

end
-- ==== Proof.Body2.lean ====
/-
# Parts 5 to 12 of the body: the rows made and sent, the rows received read, the block reduced and its first copy sent
-/
module

public import proofs.«01_k».proof.Proof.Body1

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (K : Dev nD × Kx → ℕ)

/-! ## The rows made and sent -/

theorem wp_part5 (c : Dev nD) {R : sProp 𝕄} {Q}
    (h : ∀ w, iprop(E m K ∗ StB (F := F) c 5 ∗ (((c : Thread nD τ).loc cc0_scratch0) ↦{fullShare} (xc m c)) ∗ R) ⊢ Q ⟨w, k0_pay16 (wc m c) (xblk (xc m c) (dn c ⟨5, h5⟩))⟩) :
    iprop(E m K ∗ StB' m c 6 7 h7 ∗ (((c : Thread nD τ).loc cc0_scratch0) ↦{fullShare} (xc m c)) ∗ R) ⊢ WP c (atBufs (k0_part5 (F := F)) c (place c) (wc m c)) Q := by
  unfold atBufs
  rw [k0_part5_eq_skeleton]
  unfold k0_part5_skel
  simp only [Prog.lift, Prog.bind_op, Prog.bind_ret, Prog.pure_eq_ret]
  refine stepR (wp_rowSent m K c 6 7 rfl h7 _ (to_dn c _ _ 1 7 rfl h7 (k0_dev8_eq c))) ?_
  refine stepX (wp_tokens c (dn c ⟨6, h6⟩) (xc m c) _ (off1 c 2#32 1 rfl 6 rfl h6)) ?_
  refine stepAny (wp_rowOld c 5 6 rfl h6) fun _ => ?_
  refine step (wp_rowMade m c 5 6 rfl h6 _ (pay15 _ _)) ?_
  refine stepR (wp_rowSent m K c 5 6 rfl h6 _ (to_dn c _ _ 2 6 rfl h6 (k0_dev9_eq c))) ?_
  refine stepX (wp_tokens c (dn c ⟨5, h5⟩) (xc m c) _ (off1 c 3#32 2 rfl 5 rfl h5)) ?_
  refine stepAny (wp_rowOld c 4 5 rfl h5) fun _ => ?_
  exact stepRet (h _)

theorem wp_part6 (c : Dev nD) (w : BitVec 32) {R : sProp 𝕄} {Q}
    (h : iprop(E m K ∗ StB' m c 3 4 h4 ∗ (((c : Thread nD τ).loc cc0_scratch0) ↦{fullShare} (xc m c)) ∗ R) ⊢ Q ⟨⟩) :
    iprop(E m K ∗ StB (F := F) c 5 ∗ (((c : Thread nD τ).loc cc0_scratch0) ↦{fullShare} (xc m c)) ∗ R) ⊢ WP c (atBufs (k0_part6 (F := F)) c (place c) (wc m c) w (k0_pay16 (wc m c) (xblk (xc m c) (dn c ⟨5, h5⟩)))) Q := by
  unfold atBufs
  rw [k0_part6_eq_skeleton]
  unfold k0_part6_skel
  simp only [Prog.lift, Prog.bind_op, Prog.bind_ret, Prog.pure_eq_ret]
  refine step (wp_rowMade m c 4 5 rfl h5 _ (pay16 _ _)) ?_
  refine stepR (wp_rowSent m K c 4 5 rfl h5 _ (to_dn c _ _ 3 5 rfl h5 (k0_dev10_eq c))) ?_
  refine stepX (wp_tokens c (dn c ⟨4, h4⟩) (xc m c) _ (off1 c 4#32 3 rfl 4 rfl h4)) ?_
  refine stepAny (wp_rowOld c 3 4 rfl h4) fun _ => ?_
  refine step (wp_rowMade m c 3 4 rfl h4 _ (pay17 _ _)) ?_
  exact stepRet h

theorem wp_part7 (c : Dev nD) {R : sProp 𝕄} {Q}
    (h : ∀ w, iprop(E m K ∗ StB (F := F) c 2 ∗ (((c : Thread nD τ).loc cc0_scratch0) ↦{fullShare} (xc m c)) ∗ R) ⊢ Q ⟨w, k0_pay19 (wc m c) (xblk (xc m c) (dn c ⟨2, h2⟩))⟩) :
    iprop(E m K ∗ StB' m c 3 4 h4 ∗ (((c : Thread nD τ).loc cc0_scratch0) ↦{fullShare} (xc m c)) ∗ R) ⊢ WP c (atBufs (k0_part7 (F := F)) c (place c) (wc m c)) Q := by
  unfold atBufs
  rw [k0_part7_eq_skeleton]
  unfold k0_part7_skel
  simp only [Prog.lift, Prog.bind_op, Prog.bind_ret, Prog.pure_eq_ret]
  refine stepR (wp_rowSent m K c 3 4 rfl h4 _ (to_dn c _ _ 4 4 rfl h4 (k0_dev11_eq c))) ?_
  refine stepX (wp_tokens c (dn c ⟨3, h3⟩) (xc m c) _ (off1 c 5#32 4 rfl 3 rfl h3)) ?_
  refine stepAny (wp_rowOld c 2 3 rfl h3) fun _ => ?_
  refine step (wp_rowMade m c 2 3 rfl h3 _ (pay18 _ _)) ?_
  refine stepR (wp_rowSent m K c 2 3 rfl h3 _ (to_dn c _ _ 5 3 rfl h3 (k0_dev12_eq c))) ?_
  refine stepX (wp_tokens c (dn c ⟨2, h2⟩) (xc m c) _ (off1 c 6#32 5 rfl 2 rfl h2)) ?_
  refine stepAny (wp_rowOld c 1 2 rfl h2) fun _ => ?_
  exact stepRet (h _)

theorem wp_part8 (c : Dev nD) (w : BitVec 32) {R : sProp 𝕄} {Q}
    (h : iprop(E m K ∗ StB' m c 0 1 h1 ∗ (((c : Thread nD τ).loc cc0_scratch0) ↦{fullShare} (xc m c)) ∗ R) ⊢ Q ⟨⟩) :
    iprop(E m K ∗ StB (F := F) c 2 ∗ (((c : Thread nD τ).loc cc0_scratch0) ↦{fullShare} (xc m c)) ∗ R) ⊢ WP c (atBufs (k0_part8 (F := F)) c (place c) (wc m c) w (k0_pay19 (wc m c) (xblk (xc m c) (dn c ⟨2, h2⟩)))) Q := by
  unfold atBufs
  rw [k0_part8_eq_skeleton]
  unfold k0_part8_skel
  simp only [Prog.lift, Prog.bind_op, Prog.bind_ret, Prog.pure_eq_ret]
  refine step (wp_rowMade m c 1 2 rfl h2 _ (pay19 _ _)) ?_
  refine stepR (wp_rowSent m K c 1 2 rfl h2 _ (to_dn c _ _ 6 2 rfl h2 (k0_dev13_eq c))) ?_
  refine stepX (wp_tokens c (dn c ⟨1, h1⟩) (xc m c) _ (off1 c 7#32 6 rfl 1 rfl h1)) ?_
  refine stepAny (wp_rowOld c 0 1 rfl h1) fun _ => ?_
  refine step (wp_rowMade m c 0 1 rfl h1 _ (pay20 _ _)) ?_
  exact stepRet h

/-! ## The rows received -/

/-- All rows sent: the waits for the rows received begin, and the credits to wait for the rows sent are kept. -/
theorem rows_sent (c : Dev nD) :
    iprop(StB (F := F) c 0 ∗ bigSep J (fun j => Wt (F := F) c (some (1, j))))
      ⊢ iprop(StUp m c 1 7 0 ∗ bigSep J (fun j => cred (tallyAt (s1C c j) () N1))) := by
  unfold StB StUp
  rw [Lo_zero, Lo_zero, Up_zero, Up_zero]
  iintro ⟨⟨HO, -, Hc⟩, Hw⟩
  isplitr [Hc]
  · isplitl [HO]; · iexact HO
    isplitl [Hw]; · iexact Hw
    itrivial
  · iexact Hc

theorem rows_sent' (c : Dev nD) {A R : sProp 𝕄} :
    iprop(E m K ∗ StB (F := F) c 0 ∗ A ∗ bigSep J (fun j => Wt (F := F) c (some (1, j))) ∗ R)
      ⊢ iprop(E m K ∗ StUp m c 1 7 0 ∗ A ∗ bigSep J (fun j => cred (tallyAt (s1C c j) () N1)) ∗ R) := by
  iintro ⟨#HE, HB, HX, Hw, HR⟩
  ihave H := (rows_sent m c) $$ [HB Hw]
  · isplitl [HB] <;> iassumption
  icases H with ⟨HU, Hc⟩
  isplitr; · iexact HE
  isplitl [HU]; · iexact HU
  isplitl [HX]; · iexact HX
  isplitl [Hc] <;> iassumption

theorem wp_part9 (c : Dev nD) {R : sProp 𝕄} {Q}
    (h : iprop(E m K ∗ StUp m c 1 7 2 ∗ (((c : Thread nD τ).loc cc0_scratch0) ↦{fullShare} (xc m c)) ∗ bigSep J (fun j => cred (tallyAt (s1C c j) () N1)) ∗ R) ⊢ Q (k0_pay21 (wc m c) (xblk (xc m c) c))) :
    iprop(E m K ∗ StB' m c 0 1 h1 ∗ (((c : Thread nD τ).loc cc0_scratch0) ↦{fullShare} (xc m c)) ∗ bigSep J (fun j => Wt (F := F) c (some (1, j))) ∗ R)
      ⊢ WP c (atBufs (k0_part9 (F := F)) c (place c) (wc m c)) Q := by
  unfold atBufs
  rw [k0_part9_eq_skeleton]
  unfold k0_part9_skel
  simp only [Prog.lift, Prog.bind_op, Prog.bind_ret, Prog.pure_eq_ret]
  refine stepR (wp_rowSent m K c 0 1 rfl h1 _ (to_dn c _ _ 7 1 rfl h1 (k0_dev14_eq c))) ?_
  refine stepX (wp_tokens c c (xc m c) _ rfl) ?_
  refine BIBase.Entails.trans (rows_sent' m K c) ?_
  refine stepE (wp_waitUp m K c 1 7 0 1 rfl h1 cc0_scratch4 rfl (by decide) (row_credit 1 h1)) ?_
  refine stepE (wp_waitUp m K c 1 7 1 2 rfl h2 cc0_scratch4 rfl (by decide) (row_credit 2 h2)) ?_
  exact stepRet h

theorem wp_part10 (c : Dev nD) {R : sProp 𝕄} {Q} (h : iprop(E m K ∗ StUp m c 1 7 5 ∗ R) ⊢ Q ⟨⟩) :
    iprop(E m K ∗ StUp m c 1 7 2 ∗ R) ⊢ WP c (atBufs (k0_part10 (F := F)) (place c)) Q := by
  unfold atBufs
  rw [k0_part10_eq_skeleton]
  unfold k0_part10_skel
  simp only [Prog.lift, Prog.bind_op, Prog.bind_ret, Prog.pure_eq_ret]
  refine stepE (wp_waitUp m K c 1 7 2 3 rfl h3 cc0_scratch4 rfl (by decide) (row_credit 3 h3)) ?_
  refine stepE (wp_waitUp m K c 1 7 3 4 rfl h4 cc0_scratch4 rfl (by decide) (row_credit 4 h4)) ?_
  refine stepE (wp_waitUp m K c 1 7 4 5 rfl h5 cc0_scratch4 rfl (by decide) (row_credit 5 h5)) ?_
  exact stepRet h

theorem wp_part11 (c : Dev nD) (v : FVec F S64x512 .f32) {R : sProp 𝕄} {Q}
    (h : iprop(E m K ∗ StUp m c 1 7 7 ∗ R) ⊢ Q (k0_pay22 v (part m (up c 1) c) (part m (up c 2) c) (part m (up c 3) c) (part m (up c 4) c) (part m (up c 5) c))) :
    iprop(E m K ∗ StUp m c 1 7 5 ∗ R) ⊢ WP c (atBufs (k0_part11 (F := F)) (place c) v) Q := by
  unfold atBufs
  rw [k0_part11_eq_skeleton]
  unfold k0_part11_skel
  simp only [Prog.lift, Prog.bind_op, Prog.bind_ret, Prog.pure_eq_ret]
  refine stepE (wp_waitUp m K c 1 7 5 6 rfl h6 cc0_scratch4 rfl (by decide) (row_credit 6 h6)) ?_
  refine stepE (wp_waitUp m K c 1 7 6 7 rfl h7 cc0_scratch4 rfl (by decide) (row_credit 7 h7)) ?_
  refine step (wp_rowRead m c 1 (Nat.succ_pos _) h1) ?_
  refine step (wp_rowRead m c 2 (Nat.succ_pos _) h2) ?_
  refine step (wp_rowRead m c 3 (Nat.succ_pos _) h3) ?_
  refine step (wp_rowRead m c 4 (Nat.succ_pos _) h4) ?_
  refine step (wp_rowRead m c 5 (Nat.succ_pos _) h5) ?_
  exact stepRet h

/-! ## The block reduced -/

/-- The block dealt to its copies: the sends can begin, and what the waits for the rows handed over is kept. -/
theorem blk_ready (c : Dev nD) :
    iprop(StUp m c 1 7 7 ∗ bigSep J (fun j => outBlk (Transfers.dealOf fullShare J j) c c (OUT m)) ∗ bigSep J (BlkD (F := F) c))
      ⊢ iprop(StD m c 7 ∗ bigSep J (fun j => Got m c (some (1, j)))) := by
  unfold StD StUp
  rw [Lo_seven, Lo_seven, Up_seven, Up_seven]
  iintro ⟨⟨HO, -, Hg⟩, Hb, Hd⟩
  isplitr [Hg]
  · isplitl [HO]; · iexact HO
    isplitl [Hb Hd]
    · iapply (Entails.of_eq (bigSep_sep' J (fun j => outBlk (Transfers.dealOf fullShare J j) c c (OUT m)) (BlkD (F := F) c)).symm)
      isplitl [Hb] <;> iassumption
    · itrivial
  · iexact Hg

theorem wp_part12 (c : Dev nD) {R : sProp 𝕄} {Q}
    (h : iprop(E m K ∗ StD m c 6 ∗ bigSep J (fun j => Got m c (some (1, j))) ∗ R) ⊢ Q ⟨⟩) :
    iprop(E m K ∗ StUp m c 1 7 7 ∗ (∃ f, outBlk (F := F) fullShare c c f) ∗ bigSep J (BlkD (F := F) c) ∗ R)
      ⊢ WP c (atBufs (k0_part12 (F := F)) c (place c)
        (k0_pay22 (k0_pay21 (wc m c) (xblk (xc m c) c)) (part m (up c 1) c) (part m (up c 2) c) (part m (up c 3) c) (part m (up c 4) c) (part m (up c 5) c))) Q := by
  unfold atBufs
  rw [k0_part12_eq_skeleton]
  unfold k0_part12_skel
  simp only [Prog.lift, Prog.bind_op, Prog.bind_ret, Prog.pure_eq_ret]
  refine step (wp_rowRead m c 6 (Nat.succ_pos _) h6) ?_
  refine step (wp_rowRead m c 7 (Nat.succ_pos _) h7) ?_
  iintro ⟨#HE, HU, Hb, Hd, HR⟩
  iapply (wp_blkOld c _ (off3 c)) $$ Hb
  iintro %v Hb
  iapply (wp_blkMade m c _ (off3 c)) $$ Hb
  iintro Hb
  ihave H := (blk_ready m c) $$ [HU Hb Hd]
  · isplitl [HU]; · iexact HU
    isplitl [Hb] <;> iassumption
  icases H with ⟨HD, Hg⟩
  iapply (wp_blkSent m K c 6 7 rfl h7 _ (to_dn c _ _ 1 7 rfl h7 (k0_dev15_eq c))) $$ [HD]
  · unfold E
    icases HE with ⟨#HR', #HL⟩
    isplitr; · iexact HR'
    iexact HD
  iintro HD
  iapply (stepRet (Q := Q) h)
  isplitr; · iexact HE
  isplitl [HD]; · iexact HD
  isplitl [Hg] <;> iassumption

end Cert.KernelIdeal.Run

end
-- ==== Proof.Body3.lean ====
/-
# Parts 13 to 20 of the body, and the body: the other copies of the block sent, and the waits of the end
-/
module

public import proofs.«01_k».proof.Proof.Body2

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (K : Dev nD × Kx → ℕ)

/-! ## The copies of the block -/

theorem wp_part13 (c : Dev nD) {R : sProp 𝕄} {Q} (h : ∀ w, iprop(E m K ∗ StD m c 3 ∗ R) ⊢ Q w) :
    iprop(E m K ∗ StD m c 6 ∗ R) ⊢ WP c (atBufs (k0_part13 (F := F)) c (place c)) Q := by
  unfold atBufs
  rw [k0_part13_eq_skeleton]
  unfold k0_part13_skel
  simp only [Prog.lift, Prog.bind_op, Prog.bind_ret, Prog.pure_eq_ret]
  refine stepR (wp_blkSent m K c 5 6 rfl h6 _ (to_dn c _ _ 2 6 rfl h6 (k0_dev16_eq c))) ?_
  refine stepR (wp_blkSent m K c 4 5 rfl h5 _ (to_dn c _ _ 3 5 rfl h5 (k0_dev17_eq c))) ?_
  refine stepR (wp_blkSent m K c 3 4 rfl h4 _ (to_dn c _ _ 4 4 rfl h4 (k0_dev18_eq c))) ?_
  exact stepRet (h _)

theorem wp_part14 (c : Dev nD) (w : BitVec 32) {R : sProp 𝕄} {Q} (h : iprop(E m K ∗ StD m c 0 ∗ R) ⊢ Q ⟨⟩) :
    iprop(E m K ∗ StD m c 3 ∗ R) ⊢ WP c (atBufs (k0_part14 (F := F)) c (place c) w) Q := by
  unfold atBufs
  rw [k0_part14_eq_skeleton]
  unfold k0_part14_skel
  simp only [Prog.lift, Prog.bind_op, Prog.bind_ret, Prog.pure_eq_ret]
  refine stepR (wp_blkSent m K c 2 3 rfl h3 _ (to_dn c _ _ 5 3 rfl h3 (k0_dev19_eq c))) ?_
  refine stepR (wp_blkSent m K c 1 2 rfl h2 _ (to_dn c _ _ 6 2 rfl h2 (k0_dev20_eq c))) ?_
  refine stepR (wp_blkSent m K c 0 1 rfl h1 _ (to_dn c _ _ 7 1 rfl h1 (k0_dev21_eq c))) ?_
  exact stepRet h

/-! ## The waits for the rows sent -/

theorem row_creditS (j : ℕ) (hj : j < 8) : (rowM sgM j hj).view.dmaCredit = N1 := rfl
theorem blk_creditAt (o : Fin 2 → Nat) (inb : ∀ a, o a + S64x512.size a ≤ S512x512.size a) :
    (outM.slice (Rect.unit (s := S512x512) o S64x512.size inb) (fun _ => rfl)).view.dmaCredit = N2 := rfl

theorem wp_part15 (c : Dev nD) {R : sProp 𝕄} {Q} (h : iprop(E m K ∗ StLo m c 0 0 4 ∗ R) ⊢ Q ⟨⟩) :
    iprop(E m K ∗ StLo m c 0 0 7 ∗ R) ⊢ WP c (atBufs (k0_part15 (F := F))) Q := by
  unfold atBufs
  rw [k0_part15_eq_skeleton]
  unfold k0_part15_skel
  simp only [Prog.lift, Prog.bind_op, Prog.bind_ret, Prog.pure_eq_ret]
  refine stepE (wp_waitLo m K c 0 0 6 7 rfl h7 cc0_scratch3 rfl (by decide) (row_creditS 7 h7)) ?_
  refine stepE (wp_waitLo m K c 0 0 5 6 rfl h6 cc0_scratch3 rfl (by decide) (row_creditS 6 h6)) ?_
  refine stepE (wp_waitLo m K c 0 0 4 5 rfl h5 cc0_scratch3 rfl (by decide) (row_creditS 5 h5)) ?_
  exact stepRet h

theorem wp_part16 (c : Dev nD) {R : sProp 𝕄} {Q} (h : ∀ w w', iprop(E m K ∗ StLo m c 0 0 0 ∗ R) ⊢ Q ⟨w, w'⟩) :
    iprop(E m K ∗ StLo m c 0 0 4 ∗ R) ⊢ WP c (atBufs (k0_part16 (F := F)) (place c)) Q := by
  unfold atBufs
  rw [k0_part16_eq_skeleton]
  unfold k0_part16_skel
  simp only [Prog.lift, Prog.bind_op, Prog.bind_ret, Prog.pure_eq_ret]
  refine stepE (wp_waitLo m K c 0 0 3 4 rfl h4 cc0_scratch3 rfl (by decide) (row_creditS 4 h4)) ?_
  refine stepE (wp_waitLo m K c 0 0 2 3 rfl h3 cc0_scratch3 rfl (by decide) (row_creditS 3 h3)) ?_
  refine stepE (wp_waitLo m K c 0 0 1 2 rfl h2 cc0_scratch3 rfl (by decide) (row_creditS 2 h2)) ?_
  refine stepE (wp_waitLo m K c 0 0 0 1 rfl h1 cc0_scratch3 rfl (by decide) (row_creditS 1 h1)) ?_
  exact stepRet (h _ _)

/-! ## The waits for the blocks received and sent -/

theorem wp_part17 (c : Dev nD) (w w' : BitVec 32) {R : sProp 𝕄} {Q} (h : iprop(E m K ∗ StUp m c 3 0 3 ∗ R) ⊢ Q ⟨⟩) :
    iprop(E m K ∗ StUp m c 3 0 0 ∗ R) ⊢ WP c (atBufs (k0_part17 (F := F)) c (place c) w w') Q := by
  unfold atBufs
  rw [k0_part17_eq_skeleton]
  unfold k0_part17_skel
  simp only [Prog.lift, Prog.bind_op, Prog.bind_ret, Prog.pure_eq_ret]
  refine stepE (wp_waitUp m K c 3 0 0 1 rfl h1 cc0_scratch6 rfl (by decide) (blk_creditAt _ _)) ?_
  refine stepE (wp_waitUp m K c 3 0 1 2 rfl h2 cc0_scratch6 rfl (by decide) (blk_creditAt _ _)) ?_
  refine stepE (wp_waitUp m K c 3 0 2 3 rfl h3 cc0_scratch6 rfl (by decide) (blk_creditAt _ _)) ?_
  exact stepRet h

theorem wp_part18 (c : Dev nD) {R : sProp 𝕄} {Q} (h : ∀ w, iprop(E m K ∗ StUp m c 3 0 5 ∗ R) ⊢ Q w) :
    iprop(E m K ∗ StUp m c 3 0 3 ∗ R) ⊢ WP c (atBufs (k0_part18 (F := F)) c (place c)) Q := by
  unfold atBufs
  rw [k0_part18_eq_skeleton]
  unfold k0_part18_skel
  simp only [Prog.lift, Prog.bind_op, Prog.bind_ret, Prog.pure_eq_ret]
  refine stepE (wp_waitUp m K c 3 0 3 4 rfl h4 cc0_scratch6 rfl (by decide) (blk_creditAt _ _)) ?_
  refine stepE (wp_waitUp m K c 3 0 4 5 rfl h5 cc0_scratch6 rfl (by decide) (blk_creditAt _ _)) ?_
  exact stepRet (h _)

/-- The blocks received are put aside, and the waits for the blocks sent begin. -/
theorem blks_got (c : Dev nD) {R : sProp 𝕄} :
    iprop(E m K ∗ StUp m c 3 0 7 ∗ bigSep J (fun j => Wt (F := F) c (some (2, j))) ∗ R)
      ⊢ iprop(E m K ∗ StLo m c 2 0 7 ∗ bigSep J (fun j => Got m c (some (3, j))) ∗ R) := by
  unfold StUp StLo
  rw [Up_seven, Up_seven, Lo_seven, Lo_seven]
  iintro ⟨#HE, ⟨HO, -, Hg⟩, Hw, HR⟩
  isplitr; · iexact HE
  isplitl [HO Hw]
  · isplitl [HO]; · iexact HO
    isplitl [Hw]; · iexact Hw
    itrivial
  isplitl [Hg] <;> iassumption

theorem wp_part19 (c : Dev nD) (w : BitVec 32) {R : sProp 𝕄} {Q}
    (h : iprop(E m K ∗ StLo m c 2 0 5 ∗ bigSep J (fun j => Got m c (some (3, j))) ∗ R) ⊢ Q ⟨⟩) :
    iprop(E m K ∗ StUp m c 3 0 5 ∗ bigSep J (fun j => Wt (F := F) c (some (2, j))) ∗ R) ⊢ WP c (atBufs (k0_part19 (F := F)) c (place c) w) Q := by
  unfold atBufs
  rw [k0_part19_eq_skeleton]
  unfold k0_part19_skel
  simp only [Prog.lift, Prog.bind_op, Prog.bind_ret, Prog.pure_eq_ret]
  refine stepE (wp_waitUp m K c 3 0 5 6 rfl h6 cc0_scratch6 rfl (by decide) (blk_creditAt _ _)) ?_
  refine stepE (wp_waitUp m K c 3 0 6 7 rfl h7 cc0_scratch6 rfl (by decide) (blk_creditAt _ _)) ?_
  refine BIBase.Entails.trans (blks_got m K c) ?_
  refine stepE (wp_waitLo m K c 2 0 6 7 rfl h7 cc0_scratch5 rfl (by decide) (blk_creditAt _ _)) ?_
  refine stepE (wp_waitLo m K c 2 0 5 6 rfl h6 cc0_scratch5 rfl (by decide) (blk_creditAt _ _)) ?_
  exact stepRet h

/-! ## The whole body -/

/-- The credits of the copies sent make their waits. -/
theorem waits_sent (c : Dev nD) (a : Fin 4) (s : Fin 8 → GSem nD τ sig) (hs : ∀ j, s j = kcell (c, some (a, j))) (n : ℕ) (hn : ∀ j ∈ J, n = unitsOf (some (a, j))) :
    iprop(bigSep J (fun j => atPos ER (kcell (c, some (a, j))) 0 ∅ 0) ∗ bigSep J (fun j => cred (tallyAt (s j) () n)))
      ⊢ bigSep J (fun j => Wt (F := F) c (some (a, j))) := by
  refine BIBase.Entails.trans (Entails.of_eq (bigSep_sep' J _ _).symm) (bigSep_mono fun j hj => ?_)
  rw [Wt_slot c a j hj n (hn j hj), hs]
  exact BI.Entails.refl _

/-- What the body starts from. -/
def Start (c : Dev nD) : sProp 𝕄 :=
  iprop(StA c 0 ∗ ((((c : Thread nD τ).loc cc0_stg0_0) ↦{fullShare} (xin m c)) ∗ (((c : Thread nD τ).loc cc0_stg1_0) ↦{fullShare} (rin m c)) ∗ (((c : Thread nD τ).loc cc0_stg2_0) ↦{fullShare} (iin m c)) ∗ (((c : Thread nD τ).loc cc0_stg3_0) ↦{fullShare} (ein m c))) ∗ (∃ f, ((c : Thread nD τ).loc cc0_scratch0) ↦{fullShare} f)
    ∗ (Wt (F := F) c none ∗ bigSep J (RowS (F := F) c) ∗ bigSep J (BlkT (F := F) c)) ∗ (∃ f, outBlk (F := F) fullShare c c f)
    ∗ (bigSep J (fun j => atPos ER (kcell (c, some (0, j))) 0 ∅ 0) ∗ bigSep J (fun j => Wt (F := F) c (some (1, j))) ∗ bigSep J (fun j => atPos ER (kcell (c, some (2, j))) 0 ∅ 0) ∗ bigSep J (fun j => Wt (F := F) c (some (3, j)))))
/-- What it ends with. -/
def End (c : Dev nD) : sProp 𝕄 :=
  iprop(Ow c 7 0 0 ∗ ((((c : Thread nD τ).loc cc0_stg0_0) ↦{fullShare} (xin m c)) ∗ (((c : Thread nD τ).loc cc0_stg1_0) ↦{fullShare} (rin m c)) ∗ (((c : Thread nD τ).loc cc0_stg2_0) ↦{fullShare} (iin m c)) ∗ (((c : Thread nD τ).loc cc0_stg3_0) ↦{fullShare} (ein m c))) ∗ (((c : Thread nD τ).loc cc0_scratch0) ↦{fullShare} (xc m c))
    ∗ semVal (barC c) 0 ∗ (bigSep J (fun j => Got m c (some (0, j))) ∗ bigSep J (fun j => Got m c (some (1, j))) ∗ bigSep J (fun j => Got m c (some (2, j))) ∗ bigSep J (fun j => Got m c (some (3, j)))))

/-- What stays aside in the second half of the body. -/
def Keep (c : Dev nD) : sProp 𝕄 :=
  iprop(((((c : Thread nD τ).loc cc0_stg0_0) ↦{fullShare} (xin m c)) ∗ (((c : Thread nD τ).loc cc0_stg1_0) ↦{fullShare} (rin m c)) ∗ (((c : Thread nD τ).loc cc0_stg2_0) ↦{fullShare} (iin m c)) ∗ (((c : Thread nD τ).loc cc0_stg3_0) ↦{fullShare} (ein m c))) ∗ (((c : Thread nD τ).loc cc0_scratch0) ↦{fullShare} (xc m c)) ∗ semVal (barC c) 0)

theorem to_part2 (c : Dev nD) {R : sProp 𝕄} :
    iprop(E m K ∗ Start m c ∗ R) ⊢ iprop(E m K ∗ StA c 0 ∗ (((c : Thread nD τ).loc cc0_stg0_0) ↦{fullShare} (xin m c)) ∗ (((c : Thread nD τ).loc cc0_stg1_0) ↦{fullShare} (rin m c)) ∗ (((c : Thread nD τ).loc cc0_stg2_0) ↦{fullShare} (iin m c)) ∗ ((((c : Thread nD τ).loc cc0_stg3_0) ↦{fullShare} (ein m c)) ∗ (∃ f, ((c : Thread nD τ).loc cc0_scratch0) ↦{fullShare} f)
      ∗ (Wt (F := F) c none ∗ bigSep J (RowS (F := F) c) ∗ bigSep J (BlkT (F := F) c)) ∗ (∃ f, outBlk (F := F) fullShare c c f)
      ∗ (bigSep J (fun j => atPos ER (kcell (c, some (0, j))) 0 ∅ 0) ∗ bigSep J (fun j => Wt (F := F) c (some (1, j))) ∗ bigSep J (fun j => atPos ER (kcell (c, some (2, j))) 0 ∅ 0) ∗ bigSep J (fun j => Wt (F := F) c (some (3, j)))) ∗ R)) := by
  unfold Start
  iintro ⟨#HE, ⟨HA, ⟨H0, H1, H2, H3⟩, Hx, Hp, Hb, Hw⟩, HR⟩
  isplitr; · iexact HE
  isplitl [HA]; · iexact HA
  isplitl [H0]; · iexact H0
  isplitl [H1]; · iexact H1
  isplitl [H2]; · iexact H2
  isplitl [H3]; · iexact H3
  isplitl [Hx]; · iexact Hx
  isplitl [Hp]; · iexact Hp
  isplitl [Hb]; · iexact Hb
  isplitl [Hw] <;> iassumption

theorem to_part4 (c : Dev nD) {A0 A1 A2 A3 X B W R : sProp 𝕄} :
    iprop(E m K ∗ StA c 7 ∗ A0 ∗ A1 ∗ A2 ∗ (A3 ∗ X ∗ (Wt (F := F) c none ∗ bigSep J (RowS (F := F) c) ∗ bigSep J (BlkT (F := F) c)) ∗ B ∗ W ∗ R))
      ⊢ iprop(E m K ∗ Pre4 (F := F) c ∗ X ∗ A3 ∗ ((A0 ∗ A1 ∗ A2) ∗ B ∗ W ∗ R)) := by
  unfold Pre4
  iintro ⟨#HE, HA, H0, H1, H2, H3, HX, HP, HB, HW, HR⟩
  isplitr; · iexact HE
  isplitl [HA HP]; · isplitl [HA] <;> iassumption
  isplitl [HX]; · iexact HX
  isplitl [H3]; · iexact H3
  isplitl [H0 H1 H2]
  · isplitl [H0]; · iexact H0
    isplitl [H1] <;> iassumption
  isplitl [HB]; · iexact HB
  isplitl [HW] <;> iassumption

theorem to_part9 (c : Dev nD) {P X A3 S B A0 A1 A2 W0 W1 W2 W3 D R : sProp 𝕄} :
    iprop(E m K ∗ P ∗ X ∗ A3 ∗ (S ∗ D) ∗ ((A0 ∗ A1 ∗ A2) ∗ B ∗ (W0 ∗ W1 ∗ W2 ∗ W3) ∗ R))
      ⊢ iprop(E m K ∗ P ∗ X ∗ W1 ∗ (B ∗ D ∗ (A0 ∗ A1 ∗ A2 ∗ A3) ∗ S ∗ W0 ∗ W2 ∗ W3 ∗ R)) := by
  iintro ⟨#HE, HP, HX, H3, ⟨HS, HD⟩, ⟨H0, H1, H2⟩, HB, ⟨HW0, HW1, HW2, HW3⟩, HR⟩
  isplitr; · iexact HE
  isplitl [HP]; · iexact HP
  isplitl [HX]; · iexact HX
  isplitl [HW1]; · iexact HW1
  isplitl [HB]; · iexact HB
  isplitl [HD]; · iexact HD
  isplitl [H0 H1 H2 H3]
  · isplitl [H0]; · iexact H0
    isplitl [H1]; · iexact H1
    isplitl [H2] <;> iassumption
  isplitl [HS]; · iexact HS
  isplitl [HW0]; · iexact HW0
  isplitl [HW2]; · iexact HW2
  isplitl [HW3] <;> iassumption

theorem to_part12 (c : Dev nD) {P X B D I S A0 A2 A3 C R : sProp 𝕄} :
    iprop(E m K ∗ P ∗ X ∗ C ∗ (B ∗ D ∗ I ∗ S ∗ A0 ∗ A2 ∗ A3 ∗ R)) ⊢ iprop(E m K ∗ P ∗ B ∗ D ∗ ((I ∗ X ∗ S) ∗ (A0 ∗ C) ∗ A2 ∗ A3 ∗ R)) := by
  iintro ⟨#HE, HP, HX, HC, HB, HD, HI, HS, H0, H2, H3, HR⟩
  isplitr; · iexact HE
  isplitl [HP]; · iexact HP
  isplitl [HB]; · iexact HB
  isplitl [HD]; · iexact HD
  isplitl [HI HX HS]
  · isplitl [HI]; · iexact HI
    isplitl [HX] <;> iassumption
  isplitl [H0 HC]; · isplitl [H0] <;> iassumption
  isplitl [H2]; · iexact H2
  isplitl [H3] <;> iassumption

/-- All copies of the block sent: the waits for the rows sent begin. -/
theorem to_part15 (c : Dev nD) {G1 I A3 R : sProp 𝕄} :
    iprop(E m K ∗ StD m c 0 ∗ G1 ∗ (I ∗ (bigSep J (fun j => atPos ER (kcell (c, some (0, j))) 0 ∅ 0) ∗ bigSep J (fun j => cred (tallyAt (s1C c j) () N1))) ∗ bigSep J (fun j => atPos ER (kcell (c, some (2, j))) 0 ∅ 0) ∗ A3 ∗ R))
      ⊢ iprop(E m K ∗ StLo m c 0 0 7 ∗ (A3 ∗ bigSep J (fun j => Wt (F := F) c (some (2, j))) ∗ G1 ∗ I ∗ R)) := by
  unfold StD StLo
  rw [Lo_zero, Up_zero, Up_seven, Lo_seven]
  iintro ⟨#HE, ⟨HO, -, Hc2⟩, HG, HI, H0, Ha2, H3, HR⟩
  isplitr; · iexact HE
  isplitl [HO H0]
  · isplitl [HO]; · iexact HO
    isplitl [H0]
    · iapply (waits_sent c 0 (fun j => s1C c j) (fun _ => rfl) N1 (fun _ _ => rfl)); iexact H0
    itrivial
  isplitl [H3]; · iexact H3
  isplitl [Hc2 Ha2]
  · iapply (waits_sent c 2 (fun j => s2C c j) (fun _ => rfl) N2 (fun _ _ => rfl))
    isplitl [Ha2] <;> iassumption
  isplitl [HG]; · iexact HG
  isplitl [HI] <;> iassumption

/-- The rows sent are put aside, and the waits for the blocks received begin. -/
theorem to_part17 (c : Dev nD) {W2 G1 I R : sProp 𝕄} :
    iprop(E m K ∗ StLo m c 0 0 0 ∗ (bigSep J (fun j => Wt (F := F) c (some (3, j))) ∗ W2 ∗ G1 ∗ I ∗ R))
      ⊢ iprop(E m K ∗ StUp m c 3 0 0 ∗ W2 ∗ ((bigSep J (fun j => Got m c (some (0, j))) ∗ G1) ∗ I ∗ R)) := by
  unfold StUp StLo
  rw [Lo_zero, Lo_zero, Up_zero, Up_zero]
  iintro ⟨#HE, ⟨HO, -, Hg⟩, H3, H2, HG, HI, HR⟩
  isplitr; · iexact HE
  isplitl [HO H3]
  · isplitl [HO]; · iexact HO
    isplitl [H3]; · iexact H3
    itrivial
  isplitl [H2]; · iexact H2
  isplitl [Hg HG]; · isplitl [Hg] <;> iassumption
  isplitl [HI] <;> iassumption

theorem to_end (c : Dev nD) {R : sProp 𝕄} :
    iprop(E m K ∗ StLo m c 2 0 0 ∗ bigSep J (fun j => Got m c (some (3, j))) ∗ ((bigSep J (fun j => Got m c (some (0, j))) ∗ bigSep J (fun j => Got m c (some (1, j)))) ∗ Keep m c ∗ R)) ⊢ iprop(E m K ∗ End m c ∗ R) := by
  unfold StLo Keep End
  rw [Lo_zero, Up_zero]
  iintro ⟨#HE, ⟨HO, -, H2⟩, H3, ⟨H0, H1⟩, ⟨HI, HX, HS⟩, HR⟩
  isplitr; · iexact HE
  isplitr [HR]
  · isplitl [HO]; · iexact HO
    isplitl [HI]; · iexact HI
    isplitl [HX]; · iexact HX
    isplitl [HS]; · iexact HS
    isplitl [H0]; · iexact H0
    isplitl [H1]; · iexact H1
    isplitl [H2] <;> iassumption
  · iexact HR

theorem wp_part20 (c : Dev nD) {R : sProp 𝕄} {Q}
    (h : iprop(E m K ∗ StLo m c 2 0 1 ∗ bigSep J (fun j => Got m c (some (3, j))) ∗ ((bigSep J (fun j => Got m c (some (0, j))) ∗ bigSep J (fun j => Got m c (some (1, j)))) ∗ Keep m c ∗ R)) ⊢ Q c) :
    iprop(E m K ∗ Start m c ∗ R) ⊢ WP c (atBufs (k0_part20 (F := F))) Q := by
  unfold atBufs
  rw [k0_part20_eq_skeleton]
  unfold k0_part20_skel
  refine BIBase.Entails.trans (to_part2 m K c) ?_
  unfold WP
  rw [wp_bind]; refine wp_part1 m K c ?_
  rw [wp_bind]; refine wp_part2 m K c ?_
  rw [wp_bind]; refine wp_part3 m c ?_
  refine BIBase.Entails.trans (to_part4 m K c) ?_
  rw [wp_bind]; refine wp_part4 m K c ?_
  rw [wp_bind]; refine wp_part5 m K c fun _ => ?_
  rw [wp_bind]; refine wp_part6 m K c _ ?_
  rw [wp_bind]; refine wp_part7 m K c fun _ => ?_
  rw [wp_bind]; refine wp_part8 m K c _ ?_
  refine BIBase.Entails.trans (to_part9 m K c) ?_
  rw [wp_bind]; refine wp_part9 m K c ?_
  rw [wp_bind]; refine wp_part10 m K c ?_
  rw [wp_bind]; refine wp_part11 m K c _ ?_
  refine BIBase.Entails.trans (to_part12 m K c) ?_
  rw [wp_bind]; refine wp_part12 m K c ?_
  rw [wp_bind]; refine wp_part13 m K c fun _ => ?_
  rw [wp_bind]; refine wp_part14 m K c _ ?_
  refine BIBase.Entails.trans (to_part15 m K c) ?_
  rw [wp_bind]; refine wp_part15 m K c ?_
  rw [wp_bind]; refine wp_part16 m K c fun _ _ => ?_
  refine BIBase.Entails.trans (to_part17 m K c) ?_
  rw [wp_bind]; refine wp_part17 m K c _ _ ?_
  rw [wp_bind]; refine wp_part18 m K c fun _ => ?_
  rw [wp_bind]; refine wp_part19 m K c _ ?_
  simp only [Prog.lift, Prog.bind_op, Prog.bind_ret, Prog.pure_eq_ret]
  refine stepE (wp_waitLo m K c 2 0 4 5 rfl h5 cc0_scratch5 rfl (by decide) (blk_creditAt _ _)) ?_
  refine stepE (wp_waitLo m K c 2 0 3 4 rfl h4 cc0_scratch5 rfl (by decide) (blk_creditAt _ _)) ?_
  refine stepE (wp_waitLo m K c 2 0 2 3 rfl h3 cc0_scratch5 rfl (by decide) (blk_creditAt _ _)) ?_
  refine stepE (wp_waitLo m K c 2 0 1 2 rfl h2 cc0_scratch5 rfl (by decide) (blk_creditAt _ _)) ?_
  exact stepRet h

/-- The body, run: from what it starts from to what it ends with. -/
theorem wp_body (c : Dev nD) {R : sProp 𝕄} {Q} (h : iprop(E m K ∗ End m c ∗ R) ⊢ Q ⟨⟩) :
    iprop(E m K ∗ Start m c ∗ R) ⊢ WP c (atBufs (cc0_body (F := F))) Q := by
  unfold atBufs
  rw [cc0_body_eq_skeleton]
  unfold cc0_body_skel WP
  rw [wp_bind]; refine wp_part20 m K c ?_
  simp only [Prog.lift, Prog.bind_op, Prog.bind_ret, Prog.pure_eq_ret]
  refine stepE (wp_waitLo m K c 2 0 0 1 rfl h1 cc0_scratch5 rfl (by decide) (blk_creditAt _ _)) ?_
  exact stepRet (BIBase.Entails.trans (to_end m K c) h)

end Cert.KernelIdeal.Run

end
-- ==== Proof.Ends.lean ====
/-
# Before and after the body

The buffers a device starts with are cut into rows and blocks, its positions and tokens dealt out by slots; at the end
rows and blocks are put together again and every semaphore is back at zero.
-/
module

public import proofs.«01_k».proof.Proof.Body3
public import Idealize.ShloMosaic.Lib.Ring

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## Buffers cut into rows and blocks -/

section
variable (c : Dev nD)

theorem rows_disjoint (j j' : Fin 8) (h : j ≠ j') : Disjoint (rowSet j.val j.isLt) (rowSet j'.val j'.isLt) :=
  Finset.disjoint_left.mpr fun i hi hi' => h (Fin.ext (((mem_rowSet _ _ _).mp hi).symm.trans ((mem_rowSet _ _ _).mp hi')))
theorem rows_cover : Finset.univ.biUnion (fun j : Fin 8 => rowSet j.val j.isLt) = Finset.univ :=
  Finset.eq_univ_of_forall fun i => Finset.mem_biUnion.mpr ⟨⟨(i 0).val, (i 0).isLt⟩, Finset.mem_univ _, (mem_rowSet _ _ _).mpr rfl⟩
theorem blks_disjoint (j j' : Fin 8) (h : j ≠ j') : Disjoint (outSet (up c j)) (outSet (up c j')) :=
  Finset.disjoint_left.mpr fun i hi hi' => h ((aroundEquiv c).injective (Fin.ext (((mem_outSet _ _).mp hi).symm.trans ((mem_outSet _ _).mp hi'))))
theorem blks_cover : Finset.univ.biUnion (fun j : Fin 8 => outSet (up c j)) = Finset.univ :=
  Finset.eq_univ_of_forall fun i => by
    have hi : (i 0).val / 64 < 8 := by have h : (i 0).val < 512 := (i 0).isLt; omega
    obtain ⟨j, hj⟩ := (aroundEquiv c).surjective ⟨(i 0).val / 64, hi⟩
    exact Finset.mem_biUnion.mpr ⟨j, Finset.mem_univ _, (mem_outSet _ _).mpr (congrArg Fin.val hj).symm⟩

theorem up_zero : up c 0 = c := Fin.ext (Nat.mod_eq_of_lt c.isLt)

/-- Rows: slot 0's, and those of the seven slots in use. -/
theorem at_zero (Φ : Fin 8 → sProp 𝕄) : bigSep Finset.univ Φ = iprop(Φ 0 ∗ bigSep J Φ) := bigSep_univ_at Φ 0

/-- What is held at known contents is held at some. -/
theorem slots_any {α : Type} (Φ : Fin 8 → α → sProp 𝕄) (g : α) : bigSep J (fun j => Φ j g) ⊢ bigSep J (fun j => iprop(∃ f, Φ j f)) :=
  bigSep_mono fun j _ => show Φ j g ⊢ iprop(∃ f, Φ j f) from by iintro H; iexists g; iexact H

theorem sg_split (f : Buf (Elt F) ((c : Thread nD τ).loc cc0_scratch1)) :
    ((((c : Thread nD τ).loc cc0_scratch1) ↦{fullShare} f : sProp 𝕄)) ⊢ iprop((∃ f, sgRow c 0 f) ∗ bigSep J (fun j => iprop(∃ f, sgRow c j f))) := by
  rw [Ring.pointsTo_blocks (fun j : Fin 8 => rowSet j.val j.isLt) rows_disjoint rows_cover f, at_zero]
  unfold sgRow
  iintro ⟨H, HJ⟩
  isplitl [H]; · iexists f; iexact H
  iapply (slots_any (fun j g => sgRow (F := F) c j g) f); iexact HJ
theorem sg_join : iprop((∃ f, sgRow c 0 f) ∗ bigSep J (fun j => iprop(∃ f, sgRow c j f))) ⊢ (iprop(∃ f, ((c : Thread nD τ).loc cc0_scratch1) ↦{fullShare} f) : sProp 𝕄) := by
  unfold sgRow
  iintro ⟨⟨%f, H⟩, HJ⟩
  iapply (Ring.pointsTo_blocks_join_exists (ℓ := (c : Thread nD τ).loc cc0_scratch1) (fun j : Fin 8 => rowSet j.val j.isLt) rows_disjoint rows_cover f)
  rw [at_zero]
  isplitl [H]; · iexists f; iexact H
  iexact HJ
theorem rs_split (f : Buf (Elt F) ((c : Thread nD τ).loc cc0_scratch2)) :
    ((((c : Thread nD τ).loc cc0_scratch2) ↦{fullShare} f : sProp 𝕄)) ⊢ iprop((∃ f, rsRow c 0 f) ∗ bigSep J (fun j => iprop(∃ f, rsRow c j f))) := by
  rw [Ring.pointsTo_blocks (fun j : Fin 8 => rowSet j.val j.isLt) rows_disjoint rows_cover f, at_zero]
  unfold rsRow
  iintro ⟨H, HJ⟩
  isplitl [H]; · iexists f; iexact H
  iapply (slots_any (fun j g => rsRow (F := F) c j g) f); iexact HJ
theorem rs_join : iprop((∃ f, rsRow c 0 f) ∗ bigSep J (fun j => iprop(∃ f, rsRow c j f))) ⊢ (iprop(∃ f, ((c : Thread nD τ).loc cc0_scratch2) ↦{fullShare} f) : sProp 𝕄) := by
  unfold rsRow
  iintro ⟨⟨%f, H⟩, HJ⟩
  iapply (Ring.pointsTo_blocks_join_exists (ℓ := (c : Thread nD τ).loc cc0_scratch2) (fun j : Fin 8 => rowSet j.val j.isLt) rows_disjoint rows_cover f)
  rw [at_zero]
  isplitl [H]; · iexists f; iexact H
  iexact HJ
theorem out_blocks (f : Buf (Elt F) ((c : Thread nD τ).loc cc0_stg4_0)) :
    ((((c : Thread nD τ).loc cc0_stg4_0) ↦{fullShare} f : sProp 𝕄)) = iprop(outBlk fullShare c c f ∗ bigSep J (fun j => outBlk fullShare c (up c j) f)) := by
  rw [Ring.pointsTo_blocks (fun j : Fin 8 => outSet (up c j)) (blks_disjoint c) (blks_cover c) f, at_zero]
  unfold outBlk
  exact congrArg (fun d => iprop((((c : Thread nD τ).loc cc0_stg4_0) ↦[outSet d]{fullShare} f) ∗ bigSep J (fun j => ((c : Thread nD τ).loc cc0_stg4_0) ↦[outSet (up c j)]{fullShare} f))) (up_zero c)

/-! ## Families over a device's cells -/

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_slots (Φ : Fin 4 × Fin 8 → sProp 𝕄) :
    bigSep Finset.univ Φ = iprop((Φ (0, 0) ∗ bigSep J (fun j => Φ (0, j))) ∗ (Φ (1, 0) ∗ bigSep J (fun j => Φ (1, j)))
      ∗ (Φ (2, 0) ∗ bigSep J (fun j => Φ (2, j))) ∗ (Φ (3, 0) ∗ bigSep J (fun j => Φ (3, j)))) := by
  rw [bigSep_univ_prod, bigSep_four, at_zero, at_zero, at_zero, at_zero]
theorem bigSep_kx (Φ : Kx → sProp 𝕄) : bigSep Finset.univ Φ = iprop(Φ none ∗ bigSep Finset.univ (fun p => Φ (some p))) := by
  rw [bigSep_univ_equiv (Equiv.optionEquivSumPUnit.{0, 0} (Fin 4 × Fin 8)).symm Φ, bigSep_univ_sum, bigSep_univ_of_subsingleton PUnit.unit]
  exact equiv_iff.mp ⟨BI.sep_comm, BI.sep_comm⟩
end

/-! ## Before the body and after it -/

/-- The tokens of what device `c` pays. -/
def payToks (c : Dev nD) : sProp 𝕄 :=
  iprop((bigSep Finset.univ fun j : Fin 8 => dutyTok ER (barC (up c j)) 0 j)
    ∗ (bigSep Finset.univ fun j : Fin 8 => dutyTok ER (s1C c j) 0 0) ∗ (bigSep Finset.univ fun j : Fin 8 => dutyTok ER (p1C (dn c j) j) 0 0)
    ∗ (bigSep Finset.univ fun j : Fin 8 => dutyTok ER (s2C c j) 0 0) ∗ (bigSep Finset.univ fun j : Fin 8 => dutyTok ER (p2C (dn c j) j) 0 0))
/-- What stays with device `c` alone: its positions, and the tokens of what it pays. -/
def Lin (c : Dev nD) : sProp 𝕄 := iprop((bigSep Finset.univ fun k : Kx => atPos ER (kcell (c, k)) 0 ∅ 0) ∗ payToks c)
/-- The credit it is launched with. -/
def creds (c : Dev nD) : sProp 𝕄 :=
  iprop(cred (tallyAt (barC c) () 7) ∗ (bigSep J fun j => cred (tallyAt (p1C c j) () N1)) ∗ (bigSep J fun j => cred (tallyAt (p2C c j) () N2)))
/-- The kernel's three buffers of its own, at any contents. -/
def bufs (c : Dev nD) : sProp 𝕄 := iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f))

variable (m : (l : Loc nD τ sig) → Buf (Elt F) l) (K : Dev nD × Kx → ℕ)

/-- The four inputs in place. -/
def inputs (c : Dev nD) : sProp 𝕄 := iprop((((c : Thread nD τ).loc cc0_stg0_0) ↦{fullShare} (xin m c)) ∗ (((c : Thread nD τ).loc cc0_stg1_0) ↦{fullShare} (rin m c)) ∗ (((c : Thread nD τ).loc cc0_stg2_0) ↦{fullShare} (iin m c)) ∗ (((c : Thread nD τ).loc cc0_stg3_0) ↦{fullShare} (ein m c)))
/-- What the body never touches: the cells and the rows of slot 0. -/
def Idle (c : Dev nD) : sProp 𝕄 :=
  iprop((bigSep Finset.univ fun a : Fin 4 => semVal (kcell (c, some (a, 0))) 0) ∗ (∃ f, sgRow (F := F) c 0 f) ∗ (∃ f, rsRow (F := F) c 0 f))

/-- A cell of slot 0 is closed unused. -/
theorem close_idle (c : Dev nD) (a : Fin 4) :
    iprop(records m K ∗ atPos ER (kcell (c, some (a, 0))) 0 ∅ 0) ⊢ |={Set.univ}=> semVal (kcell (c, some (a, 0))) 0 := by
  iintro ⟨#HI, Hat⟩
  iapply (Rounds.cell_close ER (Rd m) (Set.mem_univ (K (c, some (a, 0)))) (fun h => h) (R := 0) (fun r _ => by
    rcases r with _ | r
    · exact Rd_duties m c (some (a, 0))
    · exact Rd_duties_later m _ _ (Nat.succ_pos r)))
  isplitr; · iapply (inv_at m K (c, some (a, 0))); iexact HI
  iexact Hat

/-- The row tokens, slot by slot. -/
theorem waits_intro (c : Dev nD) (a : Fin 4) (n : ℕ) (hn : n = unitsOf (some (a, 0))) :
    iprop((bigSep J fun j => atPos ER (kcell (c, some (a, j))) 0 ∅ 0) ∗ (bigSep J fun j => cred (tallyAt (kcell (c, some (a, j))) () n)))
      ⊢ bigSep J (fun j => Wt (F := F) c (some (a, j))) := by
  rw [← bigSep_sep']
  exact bigSep_mono fun j hj => Entails.of_eq (Wt_slot c a j hj n hn).symm

/-- Everything the body starts from, out of what the launch hands over. -/
theorem to_start (c : Dev nD) (f : Buf (Elt F) ((c : Thread nD τ).loc cc0_stg4_0)) :
    iprop(E m K ∗ (Lin c ∗ creds c ∗ bufs c) ∗ Ow c 0 7 7 ∗ inputs m c ∗ (((c : Thread nD τ).loc cc0_stg4_0) ↦{fullShare} f))
      ⊢ |={Set.univ}=> iprop(E m K ∗ Start m c ∗ Idle (F := F) c) := by
  unfold Lin creds bufs payToks
  iintro ⟨#HE, ⟨⟨Hat, Htb, Ht1, Hp1, Ht2, Hp2⟩, ⟨Hcb, Hc1, Hc2⟩, HX, ⟨%fs, HS⟩, ⟨%fr, HR⟩⟩, HO, HI, Hout⟩
  ihave Hat := (Entails.of_eq (bigSep_kx (F := F) _)) $$ Hat
  icases Hat with ⟨Hab, Hat⟩
  ihave Hat := (Entails.of_eq (bigSep_slots (F := F) _)) $$ Hat
  icases Hat with ⟨⟨Ha00, Ha0⟩, ⟨Ha10, Ha1⟩, ⟨Ha20, Ha2⟩, ⟨Ha30, Ha3⟩⟩
  ihave #HRec := (show E (F := F) m K ⊢ records m K from by unfold E; iintro ⟨H, -⟩; iexact H) $$ HE
  imod (close_idle m K c 0) $$ [Ha00] with Hz0
  · isplitr; · iexact HRec
    iexact Ha00
  imod (close_idle m K c 1) $$ [Ha10] with Hz1
  · isplitr; · iexact HRec
    iexact Ha10
  imod (close_idle m K c 2) $$ [Ha20] with Hz2
  · isplitr; · iexact HRec
    iexact Ha20
  imod (close_idle m K c 3) $$ [Ha30] with Hz3
  · isplitr; · iexact HRec
    iexact Ha30
  ihave HS := (sg_split c fs) $$ HS
  icases HS with ⟨Hs0, HS⟩
  ihave HR := (rs_split c fr) $$ HR
  icases HR with ⟨Hr0, HR⟩
  ihave Hout := (Entails.of_eq (out_blocks c f)) $$ Hout
  icases Hout with ⟨Ho, Hout⟩
  ihave Htb := (Entails.of_eq (at_zero (F := F) _)) $$ Htb
  icases Htb with ⟨-, Htb⟩
  ihave Ht1 := (Entails.of_eq (at_zero (F := F) _)) $$ Ht1
  icases Ht1 with ⟨-, Ht1⟩
  ihave Hp1 := (Entails.of_eq (at_zero (F := F) _)) $$ Hp1
  icases Hp1 with ⟨-, Hp1⟩
  ihave Ht2 := (Entails.of_eq (at_zero (F := F) _)) $$ Ht2
  icases Ht2 with ⟨-, Ht2⟩
  ihave Hp2 := (Entails.of_eq (at_zero (F := F) _)) $$ Hp2
  icases Hp2 with ⟨-, Hp2⟩
  imodintro
  isplitr; · iexact HE
  isplitr [Hz0 Hz1 Hz2 Hz3 Hs0 Hr0]
  · unfold Start StA Wt RowS BlkT
    rw [Up_zero]
    unfold Sig
    simp only [bigSep_sep']
    isplitl [HO Htb HR Hout]
    · isplitl [HO]; · iexact HO
      isplitl [Htb]; · iexact Htb
      isplitl [HR]; · iexact HR
      iapply (slots_any (fun j g => outBlk (F := F) fullShare c (up c j) g) f)
      iexact Hout
    isplitl [HI]; · unfold inputs; iexact HI
    isplitl [HX]; · iexact HX
    isplitl [Hab Hcb HS Ht1 Hp1 Ht2 Hp2]
    · isplitl [Hab Hcb]
      · isplitl [Hab]; · iexact Hab
        iexact Hcb
      isplitl [HS Ht1 Hp1]
      · isplitl [HS]; · iexact HS
        isplitl [Ht1] <;> iassumption
      isplitl [Ht2] <;> iassumption
    isplitl [Ho]; · iexists f; iexact Ho
    isplitl [Ha0]; · iexact Ha0
    isplitl [Ha1 Hc1]
    · rw [← bigSep_sep']; iapply (waits_intro c 1 N1 rfl); isplitl [Ha1] <;> iassumption
    isplitl [Ha2]; · iexact Ha2
    rw [← bigSep_sep']; iapply (waits_intro c 3 N2 rfl); isplitl [Ha3] <;> iassumption
  · unfold Idle
    rw [bigSep_four]
    isplitl [Hz0 Hz1 Hz2 Hz3]
    · isplitl [Hz0]; · iexact Hz0
      isplitl [Hz1]; · iexact Hz1
      isplitl [Hz2] <;> iassumption
    isplitl [Hs0] <;> iassumption

/-- What the launch is handed back: the buffers, and every semaphore at zero. -/
def Back (c : Dev nD) : sProp 𝕄 :=
  iprop(bufs (F := F) c ∗ semVal (barC c) 0 ∗ bigSep Finset.univ fun p : Fin 4 × Fin 8 => semVal (kcell (c, some p)) 0)

theorem got_split (c : Dev nD) (a : Fin 4) :
    bigSep J (fun j => Got m c (some (a, j))) = iprop((bigSep J fun j => semVal (kcell (c, some (a, j))) 0) ∗ bigSep J fun j => pay m c 0 (some (a, j))) := by
  rw [← bigSep_sep']; exact bigSep_congr fun j hj => Got_slot m c a j hj

/-- What the body ends with gives everything back, the result whole. -/
theorem from_end (c : Dev nD) :
    iprop(E m K ∗ End m c ∗ Idle (F := F) c) ⊢ iprop(Back c ∗ Ow c 7 0 0 ∗ inputs m c ∗ (((c : Thread nD τ).loc cc0_stg4_0) ↦{fullShare} (OUT m : Buf (Elt F) ((c : Thread nD τ).loc cc0_stg4_0)))) := by
  unfold End Idle
  rw [bigSep_four, got_split, got_split, got_split, got_split]
  iintro ⟨-, ⟨HO, HI, HX, Hb, ⟨Hz0, Hg0⟩, ⟨Hz1, Hg1⟩, ⟨Hz2, Hg2⟩, ⟨Hz3, Hg3⟩⟩, ⟨Hy0, Hy1, Hy2, Hy3⟩, Hs0, Hr0⟩
  unfold Back bufs inputs
  isplitl [HX Hs0 Hr0 Hg0 Hg1 Hb Hz0 Hz1 Hz2 Hz3 Hy0 Hy1 Hy2 Hy3]
  · isplitl [HX Hs0 Hr0 Hg0 Hg1]
    · isplitl [HX]; · iexists _; iexact HX
      isplitl [Hs0 Hg0]
      · iapply (sg_join c); isplitl [Hs0]; · iexact Hs0
        iexact Hg0
      iapply (rs_join c); isplitl [Hr0]; · iexact Hr0
      iapply (slots_any (fun j g => rsRow (F := F) c j g) (RS m c))
      iexact Hg1
    isplitl [Hb]; · iexact Hb
    rw [bigSep_slots]
    isplitl [Hz0 Hy0]; · isplitl [Hy0] <;> iassumption
    isplitl [Hz1 Hy1]; · isplitl [Hy1] <;> iassumption
    isplitl [Hz2 Hy2]; · isplitl [Hy2] <;> iassumption
    isplitl [Hy3] <;> iassumption
  isplitl [HO]; · iexact HO
  isplitl [HI]; · iexact HI
  rw [out_blocks]
  isplitl [Hg2]
  · iapply (Entails.of_eq (show bigSep J (fun j => pay m c 0 (some (2, j))) = outBlk fullShare c c (OUT m) from
      (Transfers.pointsTo_deal J ⟨1, by decide⟩ fullShare).symm))
    iexact Hg2
  iexact Hg3

end Cert.KernelIdeal.Run

end
-- ==== Proof.Ghost.lean ====
/-
# The launch's ghost state

Every semaphore of every device enters the protocol; the tokens go to the devices that pay with them, and the credit
each device is launched with is what the others owe it.
-/
module

public import proofs.«01_k».proof.Proof.Ends

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## The cells and tokens of the launch -/

/-- All cells. -/
def ringCells : Finset (GSem nD τ sig) := Finset.univ.map ⟨kcell, kcell_injective⟩

/-- The tokens minted for a device's cells: the barrier's of every slot, and one for every transfer semaphore. -/
abbrev tokOf (x : Dev nD × (Fin 8 ⊕ (Fin 4 × Fin 8))) : GSem nD τ sig × ℕ × Fin 8 :=
  Sum.elim (fun j => (barC x.1, 0, j)) (fun p => (kcell (x.1, some p), 0, 0)) x.2
theorem tokOf_injective : Function.Injective tokOf := by
  rintro ⟨c, j | p⟩ ⟨c', j' | p'⟩ h
  · have h1 := kcell_injective (congrArg Prod.fst h)
    have h2 : j = j' := congrArg (fun x : GSem nD τ sig × ℕ × Fin 8 => x.2.2) h
    rw [h2, show c = c' from congrArg Prod.fst h1]
  · exact absurd (congrArg Prod.snd (kcell_injective (congrArg Prod.fst h))) (fun h => by cases h)
  · exact absurd (congrArg Prod.snd (kcell_injective (congrArg Prod.fst h))) (fun h => by cases h)
  · have h1 := kcell_injective (congrArg Prod.fst h)
    rw [show c = c' from congrArg Prod.fst h1, show p = p' from Option.some.inj (congrArg Prod.snd h1)]
def ringToks : Finset (GSem nD τ sig × ℕ × Fin 8) := Finset.univ.map ⟨tokOf, tokOf_injective⟩

/-- The ghost state of the launch: the pipeline's and the protocol's. -/
def u₀ : UU := (initOf (Pipeline.cells cfgs cellOf_inj) (Pipeline.launchToks cfgs cellOf_inj), initOf ringCells ringToks)

variable (m : (l : Loc nD τ sig) → Buf (Elt F) l)

/-- The tokens of device `c`'s own cells. -/
def toks (c : Dev nD) : sProp 𝕄 :=
  iprop((bigSep Finset.univ fun j : Fin 8 => dutyTok ER (barC c) 0 j) ∗ bigSep Finset.univ fun p : Fin 4 × Fin 8 => dutyTok ER (kcell (c, some p)) 0 0)
/-- What the launch deals device `c`. -/
def G (c : Dev nD) : sProp 𝕄 :=
  iprop((bigSep Finset.univ fun k : Kx => roundState ER (Rd m) (kcell (c, k)) 0)
    ∗ (bigSep Finset.univ fun k : Kx => iprop(atPos ER (kcell (c, k)) 0 ∅ 0 ∗ reached ER (kcell (c, k)) 0)) ∗ toks (F := F) c)
/-- What is made of it, all devices together. -/
def G' (c : Dev nD) : sProp 𝕄 := iprop(∃ K, records m K ∗ Lin c)

/-- The protocol's ghost state, dealt out. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one semaphore outside the kernel. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- A device's semaphores, all at zero, are its cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kx => semVal (kcell (c, k)) 0 : sProp 𝕄) := by
  rw [unscopedSems0_eq, bigSep_kx]
  unfold Pipeline.ownSems0
  iintro ⟨HS, HB⟩
  isplitl [HB]; · iexact HB
  iexact HS

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Kx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Kx => semVal (kcell (c, k)) 0) ∗ bigSep Finset.univ fun k : Kx => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Something per device and slot may be handed to the devices around, each slot by a turn of its own. -/
theorem turn (e : Fin 8 → Dev nD ≃ Dev nD) (Φ : Dev nD → Fin 8 → sProp 𝕄) :
    (bigSep Finset.univ fun c : Dev nD => bigSep Finset.univ fun j : Fin 8 => Φ c j)
      = bigSep Finset.univ fun c : Dev nD => bigSep Finset.univ fun j : Fin 8 => Φ (e j c) j := by
  have sw (Ψ : Dev nD → Fin 8 → sProp 𝕄) : (bigSep Finset.univ fun c : Dev nD => bigSep Finset.univ fun j : Fin 8 => Ψ c j)
      = bigSep Finset.univ fun j : Fin 8 => bigSep Finset.univ fun c : Dev nD => Ψ c j := by
    rw [← bigSep_univ_prod (fun x : Dev nD × Fin 8 => Ψ x.1 x.2), bigSep_univ_equiv (Equiv.prodComm (Fin 8) (Dev nD)), bigSep_univ_prod]; rfl
  rw [sw Φ, sw fun c j => Φ (e j c) j]
  exact bigSep_congr fun j _ => bigSep_univ_equiv (e j) (fun c => Φ c j)

/-- The tokens go to those who pay: the barrier's of slot `j` to the device `j` places down, a landing's of slot `j` to
    the device `j` places up. -/
theorem toks_around : (bigSep Finset.univ fun c : Dev nD => (toks c : sProp 𝕄)) ⊢ bigSep Finset.univ fun c : Dev nD => payToks c := by
  unfold toks payToks
  simp only [bigSep_sep', bigSep_univ_prod, bigSep_four]
  rw [turn upEquiv (fun c j => (dutyTok ER (barC c) 0 j : sProp 𝕄)), turn dnEquiv (fun c j => (dutyTok ER (kcell (c, some (1, j))) 0 0 : sProp 𝕄)),
    turn dnEquiv (fun c j => (dutyTok ER (kcell (c, some (3, j))) 0 0 : sProp 𝕄))]
  iintro ⟨Hb, H0, H1, H2, H3⟩
  isplitl [Hb]; · iexact Hb
  isplitl [H0]; · iexact H0
  isplitl [H1]; · iexact H1
  isplitl [H2]; · iexact H2
  iexact H3

/-- A persistent fact may be given to every member of a family. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants are known to all, and the tokens are where they belong. -/
theorem regroup :
    (bigSep Finset.univ fun c : Dev nD => iprop((bigSep Finset.univ fun k => iprop(∃ κ : ℕ, cellInv ER (Rd m) κ (kcell (c, k))))
          ∗ (bigSep Finset.univ fun k : Kx => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Kx => iprop(∃ κ : ℕ, cellInv ER (Rd m) κ (kcell ck))),
    bigSep_congr (s := Finset.univ) (fun (c : Dev nD) _ => bigSep_sep' Finset.univ (fun k : Kx => (atPos ER (kcell (c, k)) 0 ∅ 0 : sProp 𝕄)) (fun k => reached ER (kcell (c, k)) 0)),
    bigSep_sep', ← bigSep_univ_prod (fun ck : Dev nD × Kx => (reached ER (kcell ck) 0 : sProp 𝕄))]
  iintro ⟨HI, ⟨Hat, #HR⟩, Htok⟩
  ihave HK := (BI.bigSep_exists_pi Finset.univ (fun (ck : Dev nD × Kx) (κ : ℕ) => (cellInv ER (Rd m) κ (kcell ck) : sProp 𝕄))) $$ HI
  icases HK with ⟨%K, #HI⟩
  ihave Htk := (toks_around (F := F)) $$ Htok
  iapply (give_all (R := records m K) (Φ := Lin (F := F)) fun c _ => show iprop(records m K ∗ Lin c) ⊢ G' m c from by unfold G'; iintro H; iexists K; iexact H)
  isplitr
  · unfold records; isplitl; · iexact HI
    iexact HR
  · unfold Lin; rw [bigSep_sep']
    isplitl [Hat]; · iexact Hat
    iexact Htk

/-- The semaphores of all devices taken into the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- What a device owes at the launch. -/
abbrev O₀ (c : Dev nD) : CellTallies nD τ sig Unit := owe c 0 7 7

/-- What all devices together owe one cell, each slot's debt being turned around the devices. -/
theorem owed_all (e : Fin 8 → Dev nD ≃ Dev nD) (κ : Fin 8 → Kx) (n : ℕ) (c : Dev nD) (k : Kx) :
    (∑ d, (∑ j ∈ J, tallyAt (kcell (e j d, κ j)) () n : CellTallies nD τ sig Unit) (kcell (c, k)) ()) = (J.filter fun j => κ j = k).card * n := by
  have h1 (d : Dev nD) : (∑ j ∈ J, tallyAt (kcell (e j d, κ j)) () n : CellTallies nD τ sig Unit) (kcell (c, k)) ()
      = ∑ j ∈ J, if d = (e j).symm c ∧ κ j = k then n else 0 := by
    rw [Finset.sum_apply, Finsupp.finsetSum_apply]
    refine Finset.sum_congr rfl fun j _ => ?_
    rw [tallyAt_apply]
    refine if_congr ⟨fun h => ?_, fun h => ?_⟩ rfl rfl
    · have := kcell_injective h.1
      exact ⟨((e j).symm_apply_eq.mpr (congrArg Prod.fst this)).symm, (congrArg Prod.snd this).symm⟩
    · rw [h.1, h.2, Equiv.apply_symm_apply]; exact ⟨rfl, rfl⟩
  rw [Finset.sum_congr rfl fun d _ => h1 d, Finset.sum_comm]
  have h2 (j : Fin 8) : (∑ d, if d = (e j).symm c ∧ κ j = k then n else 0) = if κ j = k then n else 0 := by
    rw [Finset.sum_eq_single ((e j).symm c) (fun d _ hd => if_neg fun h => hd h.1) (fun h => absurd (Finset.mem_univ _) h)]
    exact if_congr ⟨fun h => h.2, fun h => ⟨rfl, h⟩⟩ rfl rfl
  rw [Finset.sum_congr rfl fun j _ => h2 j, Finset.sum_ite, Finset.sum_const_zero, add_zero, Finset.sum_const, smul_eq_mul]

theorem owed_total (c : Dev nD) (k : Kx) :
    (∑ d, O₀ d (kcell (c, k)) ()) = (J.filter fun _ => none = k).card * 1 + (J.filter fun j => some (1, j) = k).card * N1 + (J.filter fun j => some (3, j) = k).card * N2 := by
  rw [← owed_all upEquiv (fun _ => none) 1 c k, ← owed_all dnEquiv (fun j => some (1, j)) N1 c k, ← owed_all dnEquiv (fun j => some (3, j)) N2 c k,
    ← Finset.sum_add_distrib, ← Finset.sum_add_distrib]
  refine Finset.sum_congr rfl fun d _ => ?_
  show (oweA d 0 + oweB d 7 + oweC d 7) (kcell (c, k)) () = _
  unfold oweA oweB oweC
  rw [show Finset.univ.filter (fun j : Fin 8 => 0 < j.val) = J by decide, show Finset.univ.filter (fun j : Fin 8 => 0 < j.val ∧ j.val ≤ 7) = J by decide]
  rfl

theorem launch_at (c : Dev nD) (k : Kx) (n : ℕ)
    (hn : (J.filter fun _ => none = k).card * 1 + (J.filter fun j => some (1, j) = k).card * N1 + (J.filter fun j => some (3, j) = k).card * N2 = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_total, hn]

/-- The credit a device is launched with. -/
theorem creds_intro (c : Dev nD) : (Pipeline.launchCred O₀ c : sProp 𝕄) ⊢ creds c := by
  unfold Pipeline.launchCred creds
  refine (BI.bigSep_subset (Finset.subset_univ (Finset.univ.map ⟨csem, csem_injective⟩))).trans ?_
  rw [bigSep_map]
  refine BIBase.Entails.trans (Entails.of_eq (bigSep_kx (F := F) _)) ?_
  rw [bigSep_slots]
  iintro ⟨Hb, -, ⟨-, H1⟩, -, -, H3⟩
  isplitl [Hb]
  · iapply (Entails.of_eq (congrArg cred (launch_at c none 7 (by
      rw [show (J.filter fun _ => (none : Kx) = none).card = 7 by decide, show (J.filter fun j => (some (1, j) : Kx) = none).card = 0 by decide,
        show (J.filter fun j => (some (3, j) : Kx) = none).card = 0 by decide, Nat.zero_mul])))); iexact Hb
  isplitl [H1]
  · iapply (Entails.of_eq (bigSep_congr (s := J) fun j hj => congrArg cred (launch_at c (some (1, j)) N1 (by
      rw [(by decide : ∀ j : Fin 8, (J.filter fun _ => (none : Kx) = some (1, j)).card = 0) j,
        (by decide : ∀ j ∈ J, (J.filter fun i => (some (1, i) : Kx) = some (1, j)).card = 1) j hj,
        (by decide : ∀ j : Fin 8, (J.filter fun i => (some (3, i) : Kx) = some (1, j)).card = 0) j, Nat.zero_mul, Nat.zero_mul, Nat.one_mul, Nat.zero_add, Nat.add_zero])))); iexact H1
  · iapply (Entails.of_eq (bigSep_congr (s := J) fun j hj => congrArg cred (launch_at c (some (3, j)) N2 (by
      rw [(by decide : ∀ j : Fin 8, (J.filter fun _ => (none : Kx) = some (3, j)).card = 0) j,
        (by decide : ∀ j ∈ J, (J.filter fun i => (some (3, i) : Kx) = some (3, j)).card = 1) j hj,
        (by decide : ∀ j : Fin 8, (J.filter fun i => (some (1, i) : Kx) = some (3, j)).card = 0) j, Nat.zero_mul, Nat.zero_mul, Nat.one_mul, Nat.zero_add])))); iexact H3

end Cert.KernelIdeal.Run

end
-- ==== Proof.Launch.lean ====
/-
# The run

The kernel is launched on all eight devices: every run ends, and what it leaves in memory is known.
-/
module

public import proofs.«01_k».proof.Proof.Ghost
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (ρ : Dev nD → PrngReg)

/-- What a device's run of the body starts from, the buffers aside. -/
def start (c : Dev nD) : sProp 𝕄 := iprop(G' m c ∗ creds c ∗ levAts L lv)

/-- The one launch of the kernel: its inputs left in place, the result at `OUT m`. -/
def dats (_ : Fin 1) (c : Dev nD) : Dat τ (Elt F) Unit ℕ UU ℕ cfg0 c where
  A w := (MemSt.mk m (fun _ => 0) ρ : MemSt nD τ sig (Elt F)).mem ((cfg0.win w).arr.view.loc (c : Thread nD τ))
  after w _ := match w with
    | ⟨0, _⟩ => xin m c
    | ⟨1, _⟩ => rin m c
    | ⟨2, _⟩ => iin m c
    | ⟨3, _⟩ => ein m c
    | ⟨4, _⟩ => OUT m
  Φ t := match t with
    | ⟨0, _⟩ => iprop(start m c ∗ bufs c)
    | ⟨_ + 1, _⟩ => Back c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- Before the body. -/
def bodyPre (c : Dev nD) : sProp 𝕄 :=
  iprop((start m c ∗ bufs c) ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
/-- After it. -/
def bodyPost (c : Dev nD) : sProp 𝕄 :=
  iprop(Back c ∗ (dats m ρ 0 c).owesAt () t0_0.succ ∗ stg c cc0_stg0_0 (xin m c) ∗ stg c cc0_stg1_0 (rin m c) ∗ stg c cc0_stg2_0 (iin m c)
    ∗ stg c cc0_stg3_0 (ein m c) ∗ stg c cc0_stg4_0 (OUT m))

theorem before_0 (c : Dev nD) (d) : (dats m ρ 0 c).before (0 : Fin 5) t0_0 d = xin m c := by unfold Dat.before; rw [if_pos (fetch0_0 t0_0)]; rfl
theorem before_1 (c : Dev nD) (d) : (dats m ρ 0 c).before (1 : Fin 5) t0_0 d = rin m c := by unfold Dat.before; rw [if_pos (fetch0_1 t0_0)]; rfl
theorem before_2 (c : Dev nD) (d) : (dats m ρ 0 c).before (2 : Fin 5) t0_0 d = iin m c := by unfold Dat.before; rw [if_pos (fetch0_2 t0_0)]; rfl
theorem before_3 (c : Dev nD) (d) : (dats m ρ 0 c).before (3 : Fin 5) t0_0 d = ein m c := by unfold Dat.before; rw [if_pos (fetch0_3 t0_0)]; rfl

/-- What the body ends with is what the launch expects after it. -/
theorem post_intro (K : Dev nD × Kx → ℕ) (c : Dev nD) : iprop(E m K ∗ End m c ∗ Idle (F := F) c) ⊢ bodyPost m ρ c := by
  refine BIBase.Entails.trans (from_end m K c) ?_
  unfold bodyPost Ow inputs Dat.owesAt Pipeline.owesWithin
  rw [owe_done, show (dats m ρ 0 c).owed t0_0.succ = 0 from rfl]
  iintro ⟨HB, ⟨%W, HO⟩, ⟨H0, H1, H2, H3⟩, Ho⟩
  isplitl [HB]; · iexact HB
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact Ho

set_option maxRecDepth 20000 in
/-- The body meets what the launch asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (atBufs (cc0_body (F := F))) (fun _ => bodyPost m ρ c)
  unfold bodyPre start G' Dat.owesAt Pipeline.owesWithin
  rw [show (dats m ρ 0 c).owed t0_0.castSucc = O₀ c from rfl]
  simp only [before_0, before_1, before_2, before_3]
  iintro ⟨⟨⟨⟨%K, #HR, HL⟩, Hc, #Hlev⟩, HB⟩, ⟨%W, -, HO⟩, ⟨%d0, %f0, %e0, H0⟩, ⟨%d1, %f1, %e1, H1⟩, ⟨%d2, %f2, %e2, H2⟩, ⟨%d3, %f3, %e3, H3⟩, ⟨%d4, %f4, -, H4⟩⟩
  subst e0 e1 e2 e3
  imod (to_start m K c f4) $$ [HL Hc HB HO H0 H1 H2 H3 H4] with HS
  · isplitr
    · unfold E; isplitr; · iexact HR
      iexact Hlev
    isplitl [HL Hc HB]
    · isplitl [HL]; · iexact HL
      isplitl [Hc] <;> iassumption
    isplitl [HO]; · unfold Ow; iexists W; iexact HO
    isplitl [H0 H1 H2 H3]
    · unfold inputs
      isplitl [H0]; · iexact H0
      isplitl [H1]; · iexact H1
      isplitl [H2] <;> iassumption
    iexact H4
  iapply (wp_body m K c (R := Idle c) (post_intro m ρ K c))
  iexact HS

/-! ## The launch -/

theorem ownSemFacts : Pipeline.OwnSemFacts cfg0.spec osem := by decide +kernel
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs c) from rfl, scopedRest0_eq]
  unfold bufs
  iintro ⟨Hs, -, HB⟩
  isplitl [Hs] <;> iassumption

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Back c from rfl, scopedRest0_eq, unscopedSems0_eq]
  unfold Back bufs Pipeline.ownSems0
  iintro ⟨HB, Hb, HS⟩
  isplitl [Hb]; · iexact Hb
  isplitl [HS] <;> iassumption

/-- A semaphore outside the protocol is at level 0. -/
theorem lv_outside (c : Dev nD) (sm : SemLoc sig) (h : ∀ k, csem k ≠ sm) : lv ((c : Thread nD τ), sm) () ≤ 0 := by
  have hd : dec sm = none := by unfold dec; rw [dif_neg fun ⟨k, hk⟩ => h k hk]
  show (dec sm).elim 0 lvK ≤ 0
  rw [hd]; exact Nat.le_refl 0

/-- The semaphores of the staging buffers are below all others. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of_lt c _ 0 7 7 0 (lv_outside c _ (by fin_cases w <;> fin_cases s <;> decide +kernel)) (fun _ => by decide) (fun _ => by decide) (fun _ => by decide)
    · show (levAts L lv : sProp 𝕄) ⊢ MayWait _ _ _ 0
      rw [MayWait_zero]; iintro -; iempintro

/-! ## The run -/

/-- What every array of the launch holds at the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the program ends, with the arrays as computed and every semaphore at zero. -/
theorem run_arrays : θ_run defs (onTc (τ := τ) (main (F := F))) (⟨m, fun _ => 0, ρ⟩ : MemSt nD τ sig (Elt F)) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.Result.lean ====
/-
# What the run leaves

The inputs are read whole and the result is written back whole, so the result array of every device ends at `OUT m`.
-/
module

public import proofs.«01_k».proof.Proof.Launch
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

variable (m : (l : Loc nD τ sig) → Buf (Elt F) l) (ρ : Dev nD → PrngReg)
/-- A rectangle that starts at the beginning of every axis takes each of its indices to itself. -/
theorem emb_at_zero {s : Shape} (off size : Fin s.rank → Nat) (inb : ∀ a, off a + size a ≤ s.size a) (h : ∀ a, off a = 0)
    (i : (Rect.unit off size inb).shape.Idx) (a : Fin s.rank) : ((Rect.unit off size inb).emb i a).val = (i a).val := by
  show off a + 1 * (i a).val = _
  rw [h, Nat.one_mul, Nat.zero_add]

/-- Each input is read whole. -/
theorem xin_eq (c : Dev nD) : xin m c = m ((c : Thread nD τ).loc main_arg0) := funext fun i =>
  congrArg (m ((c : Thread nD τ).loc main_arg0)) (funext fun a => Fin.ext (emb_at_zero (fun a => win0_0.index t0_0 a * win0_0.size a) _ _ (by decide +kernel) i a))
theorem rin_eq (c : Dev nD) : rin m c = m ((c : Thread nD τ).loc main_arg1) := funext fun i =>
  congrArg (m ((c : Thread nD τ).loc main_arg1)) (funext fun a => Fin.ext (emb_at_zero (fun a => win0_1.index t0_0 a * win0_1.size a) _ _ (by decide +kernel) i a))
theorem iin_eq (c : Dev nD) : iin m c = m ((c : Thread nD τ).loc main_arg2) := funext fun i =>
  congrArg (m ((c : Thread nD τ).loc main_arg2)) (funext fun a => Fin.ext (emb_at_zero (fun a => win0_2.index t0_0 a * win0_2.size a) _ _ (by decide +kernel) i a))
theorem ein_eq (c : Dev nD) : ein m c = m ((c : Thread nD τ).loc main_arg3) := funext fun i =>
  congrArg (m ((c : Thread nD τ).loc main_arg3)) (funext fun a => Fin.ext (emb_at_zero (fun a => win0_3.index t0_0 a * win0_3.size a) _ _ (by decide +kernel) i a))

/-- The result is written back whole, -/
theorem flushed_eq (c : Dev nD) (t : Fin cfg0.N) : (dats m ρ 0 c).flushed 4 t = ((cfg0.win 4).blk t).view.read (Elt F) (OUT m) := by
  rw [fin_N0 t]
  exact funext fun i => congrArg (OUT m) (funext fun a => Fin.ext (emb_at_zero (fun a => win0_4.index t0_0 a * win0_4.size a) _ _ (by decide +kernel) i a).symm)
theorem cover (i : S512x512.Idx) : ∃ t : Fin cfg0.N, (cfg0.win 4).flush t = true ∧ i ∈ ((cfg0.win 4).blk t).view.set := by
  refine ⟨t0_0, flush0_4 _, ?_⟩
  show i ∈ ((View.whole main_v1).slice (win0_4.rect t0_0)).set
  rw [View.set_slice_whole, Rect.mem_set_unit]
  intro a
  have h : ∀ a, win0_4.index t0_0 a * win0_4.size a = 0 ∧ win0_4.xsize (grid0.coords t0_0) a = S512x512.size a := by decide +kernel
  refine ⟨?_, ?_⟩
  · show win0_4.index t0_0 a * win0_4.size a ≤ (i a).val
    rw [(h a).1]; exact Nat.zero_le _
  · show (i a).val < win0_4.index t0_0 a * win0_4.size a + win0_4.xsize (grid0.coords t0_0) a
    rw [(h a).1, (h a).2, Nat.zero_add]; exact (i a).isLt
/-- so its array ends at `OUT m`. -/
theorem finalA_out (c : Dev nD) : finalA m ρ c 4 = OUT m :=
  (dats m ρ 0 c).arrAt_eq_of_cover 4 (OUT m) (fun t _ => flushed_eq m ρ c t) cover
/-- Every run of the program ends with the result at `OUT m` on every device, the arguments as they were and every
semaphore at zero. -/
theorem run_main : θ_run defs (onTc (τ := τ) (main (F := F))) (⟨m, fun _ => 0, ρ⟩ : MemSt nD τ sig (Elt F))
    (fun r => (∀ c : Dev nD, r.2.mem ((c : Thread nD τ).loc main_v1) = OUT m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c 4).trans (finalA_out m ρ c), (h.1 c 0).trans ((dats m ρ 0 c).arrAt_in (0 : Fin 5) rfl _),
    (h.1 c 1).trans ((dats m ρ 0 c).arrAt_in (1 : Fin 5) rfl _), (h.1 c 2).trans ((dats m ρ 0 c).arrAt_in (2 : Fin 5) rfl _),
    (h.1 c 3).trans ((dats m ρ 0 c).arrAt_in (3 : Fin 5) rfl _)⟩, h.2⟩) (run_arrays m ρ)

end Cert.KernelIdeal.Run

end
-- ==== Proof.Frames.lean ====
/-
  The frame claims: the kernel at both readings of its floats, and the reference.
-/
module

public import proofs.«01_k».proof.Defs
public import proofs.«01_k».proof.Proof.Gen.Kernel
public import proofs.«01_k».proof.Proof.Result
public import proofs.«01_k».proof.Proof.Gen.ReferenceIdeal.Run
public import proofs.«01_k».proof.Proof.Gen.Pre_routable_KernelIdeal
public import proofs.«01_k».proof.Proof.Gen.Pre_routable_ReferenceIdeal
public import Idealize.ShloMosaic.Lib.Quiescent

@[expose] public section

noncomputable section

namespace Cert.Proof

open Idealize.ShloMosaic Idealize.SL.Sem

/-- From any memory the kernel over the ideal floats ends with its arguments unchanged and every counter at zero. -/
theorem frame_ideal : Cert.quiescent_KernelIdeal := fun m ρ _ =>
  (θ_run Cert.KernelIdeal.defs _ _).mono (fun _ h => ⟨fun c => (h.1 c).2, h.2⟩) (Cert.KernelIdeal.Run.run_main (F := Ideal) m ρ)

/-- The same under the precondition of the value claim. -/
theorem frame_ideal_routable : Cert.quiescent_KernelIdeal_pre_routable_KernelIdeal := fun m ρ _ => frame_ideal m ρ trivial

/-- The two printed kernels define their bodies by the same text. -/
theorem bodies_eq : Cert.Kernel.defs₀ (F := Bits) = Cert.KernelIdeal.defs₀ (F := Bits) :=
  congrArg Defs.onTc (funext fun l => match l with
    | ⟨0, _⟩ => rfl
    | ⟨n + 1, h⟩ => absurd h (Nat.not_lt.2 (Nat.le_add_left _ _)))

/-- So their calls are the same too. -/
theorem defs_eq : Cert.Kernel.defs (F := Bits) = Cert.KernelIdeal.defs (F := Bits) :=
  congrArg (Pipeline.defs (Cert.KernelIdeal.pcfgs (F := Bits))) bodies_eq

/-- From any memory the kernel over machine floats ends with its arguments unchanged and every counter at zero. -/
theorem frame_kernel : Cert.quiescent_Kernel := fun m ρ _ => by
  rw [defs_eq]
  exact (θ_run (Cert.KernelIdeal.defs (F := Bits)) _ _).mono (fun _ h => ⟨fun c => (h.1 c).2, h.2⟩) (Cert.KernelIdeal.Run.run_main (F := Bits) m ρ)

/-- From any memory the reference ends with its arguments unchanged and every counter at zero: it has no counters. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The same under the precondition of the value claim. -/
theorem frame_reference_routable : Cert.quiescent_ReferenceIdeal_pre_routable_ReferenceIdeal := fun m ρ _ => frame_reference m ρ trivial

end Cert.Proof

end
-- ==== Proof.Precond.lean ====
/-
  What the value claim's precondition says of a device's arguments: every token and every router weight is a real
  number, and every entry of the routing table is one of the thirty-two experts.
-/
module

public import proofs.«01_k».proof.Pre_routable_KernelIdeal
public import Idealize.ShloMosaic.PureOps.Ideal
public import Idealize.ShloMosaic.Lib.ReduceAll
public import Idealize.ShloMosaic.Lib.WordCmp
public import Idealize.ShloMosaic.Lib.Pointwise

@[expose] public section

noncomputable section

namespace Cert.Pre_routable_KernelIdeal

open Idealize.ShloMosaic
open Facts

/-- The comparison's bound is positive infinity. -/
theorem bound_eq : Ideal.ofBits .bf16 0x7F80#16 = ⊤ := by
  simp [Ideal.ofBits, Ideal.ieee]

/-- A magnitude less than positive infinity is a real number's. -/
theorem real_of_abs_lt {v : EReal} (h : max v (-v) < ⊤) : ∃ w : ℝ, v = w := by
  have ht : v ≠ ⊤ := fun e => by rw [e] at h; simp at h
  have hb : v ≠ ⊥ := fun e => by rw [e] at h; simp at h
  exact ⟨v.toReal, (EReal.coe_toReal ht hb).symm⟩

instance : Subsingleton S_.Idx := ⟨fun a b => funext fun d => d.elim0⟩

variable [Facts]

/-- The precondition, read back. -/
theorem routable_iff (x : FVec Ideal S512x256 .bf16) (r : FVec Ideal S256x32 .bf16) (t : IVec S512x2 32) (w : FVec Ideal S4x256x512 .bf16)
    (h : fn x r t w = fun _ => 1#1) :
    (∀ i, ∃ v : ℝ, x i = (v : EReal)) ∧ (∀ i, ∃ v : ℝ, r i = (v : EReal)) ∧ ∀ i, (t i).toNat < 32 := by
  have h0 := congrFun h (fun d => d.elim0)
  dsimp only [fn] at h0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ _ h1 i
    exact real_of_abs_lt (by simpa [cmpf, Host.absf, broadcastInDim, constant, FloatOps.cmpf, FloatOps.absf, FloatOps.ofBits, Ideal.cmp, bound_eq, WordCmp.ofBool_eq_one_iff] using e)
  · have e := Host.reduce_andi_all _ _ _ _ _ h2 i
    exact real_of_abs_lt (by simpa [cmpf, Host.absf, broadcastInDim, constant, FloatOps.cmpf, FloatOps.absf, FloatOps.ofBits, Ideal.cmp, bound_eq, WordCmp.ofBool_eq_one_iff] using e)
  · have e := Host.reduce_andi_all _ _ _ _ _ h3 i
    have e' : IntOp.andi (IntOp.cmpi .sge (t i) 0#32) (IntOp.cmpi .slt (t i) 32#32) = 1#1 := e
    revert e'; generalize t i = v; word_cmp

end Cert.Pre_routable_KernelIdeal

end
-- ==== Proof.Maths.lean ====
/-
  The mixture of experts over the extended reals, and the two facts about it that the value claim rests on: on
  finite tokens and finite router weights every gate is a nonnegative real number, and so a gate may be multiplied
  into a token before the product with an expert's weights or into the product after it.
-/
module

public import Idealize.ShloMosaic.Lib.Pointwise

@[expose] public section

noncomputable section

namespace Cert.Maths

open Idealize.ShloMosaic

section Router
variable (x : Fin 512 → Fin 256 → EReal) (r : Fin 256 → Fin 32 → EReal)

/-- The router's score of expert `q` for token `i`. -/
def score (i : Fin 512) (q : Fin 32) : EReal := ∑ k, x i k * r k q
/-- The greatest score of token `i`. -/
def best (i : Fin 512) : EReal := Finset.fold max (Ideal.ofBits .f32 0xFF800000#32) (fun q => score x r i q) Finset.univ
/-- The exponential of a score less the token's greatest. -/
def weight (i : Fin 512) (q : Fin 32) : EReal := Ideal.exp (score x r i q - best x r i)
/-- The router's probability of expert `q` for token `i`. -/
def prob (i : Fin 512) (q : Fin 32) : EReal := Ideal.div (weight x r i q) (∑ k, weight x r i k)

end Router

/-- Token `i`'s product with expert `q`'s weights, at feature `f`. -/
def product (x : Fin 512 → Fin 256 → EReal) (W : Fin 32 → Fin 256 → Fin 512 → EReal) (i : Fin 512) (q : Fin 32) (f : Fin 512) : EReal :=
  ∑ k, x i k * W q k f

/-- The problem's result: the products with the two experts of token `i`, each weighted by its share of their probability. -/
def mixture (x : Fin 512 → Fin 256 → EReal) (r : Fin 256 → Fin 32 → EReal) (W : Fin 32 → Fin 256 → Fin 512 → EReal)
    (e0 e1 : Fin 512 → Fin 32) (i : Fin 512) (f : Fin 512) : EReal :=
  Ideal.div (prob x r i (e0 i)) (prob x r i (e0 i) + prob x r i (e1 i)) * product x W i (e0 i) f
    + Ideal.div (prob x r i (e1 i)) (prob x r i (e0 i) + prob x r i (e1 i)) * product x W i (e1 i) f

/-- The gate of expert `q` for token `i`: the share of the one or two of its experts that are `q`. -/
def gate (x : Fin 512 → Fin 256 → EReal) (r : Fin 256 → Fin 32 → EReal) (e0 e1 : Fin 512 → Fin 32) (i : Fin 512) (q : Fin 32) : EReal :=
  Ideal.div (prob x r i (e0 i)) (prob x r i (e0 i) + prob x r i (e1 i)) * (if q = e0 i then 1 else 0)
    + Ideal.div (prob x r i (e1 i)) (prob x r i (e0 i) + prob x r i (e1 i)) * (if q = e1 i then 1 else 0)

/-! ## Sums of extended reals -/

/-- A sum of real numbers is a real number. -/
theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A nonnegative real factor goes into a sum of extended reals. -/
theorem mul_sum_real {ι : Type} (s : Finset ι) {g : EReal} (h0 : 0 ≤ g) (ht : g ≠ ⊤) (f : ι → EReal) :
    g * ∑ k ∈ s, f k = ∑ k ∈ s, g * f k := by
  classical
  induction s using Finset.induction_on with
  | empty => simp
  | insert a s ha ih => rw [Finset.sum_insert ha, Finset.sum_insert ha, ← ih, EReal.left_distrib_of_nonneg_of_ne_top h0 ht]

/-- A sum in which one term alone counts is that term. -/
theorem sum_pick (f : Fin 32 → EReal) (e : Fin 32) : ∑ q, f q * (if q = e then 1 else 0) = f e := by
  rw [Finset.sum_eq_single e]
  · rw [if_pos rfl, mul_one]
  · intro q _ h; rw [if_neg h, mul_zero]
  · intro h; exact absurd (Finset.mem_univ e) h

/-! ## The gates are nonnegative real numbers -/

theorem neg_inf : Ideal.ofBits .f32 0xFF800000#32 = ⊥ := by
  simp [Ideal.ofBits, Ideal.ieee]

section Finite
variable {x : Fin 512 → Fin 256 → EReal} {r : Fin 256 → Fin 32 → EReal}
  (hx : ∀ i k, ∃ v : ℝ, x i k = v) (hr : ∀ k q, ∃ v : ℝ, r k q = v)
include hx hr

theorem score_real (i : Fin 512) (q : Fin 32) : ∃ v : ℝ, score x r i q = v := by
  choose X hX using hx
  choose R hR using hr
  refine ⟨∑ k, X i k * R k q, ?_⟩
  rw [← sum_real]
  exact Finset.sum_congr rfl fun k _ => by rw [hX, hR, EReal.coe_mul]

theorem best_real (i : Fin 512) : ∃ v : ℝ, best x r i = v := by
  have ht : best x r i < ⊤ := by
    unfold best; rw [Finset.fold_max_lt, neg_inf]
    refine ⟨bot_lt_top, fun q _ => ?_⟩
    obtain ⟨v, hv⟩ := score_real hx hr i q
    rw [hv]; exact EReal.coe_lt_top v
  have hb : ⊥ < best x r i := by
    unfold best; rw [Finset.lt_fold_max]
    obtain ⟨v, hv⟩ := score_real hx hr i 0
    exact Or.inr ⟨0, Finset.mem_univ _, by rw [hv]; exact EReal.bot_lt_coe v⟩
  exact ⟨(best x r i).toReal, (EReal.coe_toReal ht.ne hb.ne').symm⟩

theorem weight_real (i : Fin 512) (q : Fin 32) : ∃ v : ℝ, 0 < v ∧ weight x r i q = v := by
  obtain ⟨a, ha⟩ := score_real hx hr i q
  obtain ⟨b, hb⟩ := best_real hx hr i
  exact ⟨Real.exp (a - b), Real.exp_pos _, by rw [weight, ha, hb, ← EReal.coe_sub, Ideal.exp_coe]⟩

/-- The quotient of two positive real numbers is a positive real number. -/
theorem div_real {a b : ℝ} (ha : 0 < a) (hb : 0 < b) : ∃ v : ℝ, 0 < v ∧ Ideal.div (a : EReal) (b : EReal) = v :=
  ⟨a * (1 / b), by positivity, by rw [Ideal.div_coe hb.ne', EReal.coe_mul]⟩

theorem prob_real (i : Fin 512) (q : Fin 32) : ∃ v : ℝ, 0 < v ∧ prob x r i q = v := by
  choose w hw h using weight_real hx hr
  have hs : ∑ k, weight x r i k = ((∑ k, w i k : ℝ) : EReal) := by
    rw [← sum_real]; exact Finset.sum_congr rfl fun k _ => h i k
  rw [prob, hs, h]
  exact div_real (x := x) (r := r) hx hr (hw i q) (Finset.sum_pos (fun k _ => hw i k) ⟨0, Finset.mem_univ _⟩)

/-- An expert's share of the probability of two is a positive real number. -/
theorem share_real (i : Fin 512) (q e0 e1 : Fin 32) : ∃ v : ℝ, 0 < v ∧ Ideal.div (prob x r i q) (prob x r i e0 + prob x r i e1) = v := by
  obtain ⟨a, ha, h⟩ := prob_real hx hr i q
  obtain ⟨b, hb, h'⟩ := prob_real hx hr i e0
  obtain ⟨c, hc, h''⟩ := prob_real hx hr i e1
  rw [h, h', h'', ← EReal.coe_add]
  exact div_real (x := x) (r := r) hx hr ha (by positivity)

/-- Gating every token first and then multiplying by every expert's weights gives the mixture. -/
theorem gated_sum (W : Fin 32 → Fin 256 → Fin 512 → EReal) (e0 e1 : Fin 512 → Fin 32) (i f : Fin 512) :
    ∑ q : Fin 32, ∑ k : Fin 256, x i k * gate x r e0 e1 i q * W q k f = mixture x r W e0 e1 i f := by
  obtain ⟨a, ha, hA⟩ := share_real hx hr i (e0 i) (e0 i) (e1 i)
  obtain ⟨b, hb, hB⟩ := share_real hx hr i (e1 i) (e0 i) (e1 i)
  have hg : ∀ q, gate x r e0 e1 i q = (a : EReal) * (if q = e0 i then 1 else 0) + (b : EReal) * (if q = e1 i then 1 else 0) := by
    intro q; rw [gate, hA, hB]
  have ha' : (0 : EReal) ≤ a := by exact_mod_cast ha.le
  have hb' : (0 : EReal) ≤ b := by exact_mod_cast hb.le
  have hi : ∀ q e : Fin 32, (0 : EReal) ≤ if q = e then 1 else 0 := by intro q e; split <;> simp
  have hn : ∀ q, 0 ≤ gate x r e0 e1 i q := fun q => by
    rw [hg]; exact add_nonneg (mul_nonneg ha' (hi _ _)) (mul_nonneg hb' (hi _ _))
  have ht : ∀ q, gate x r e0 e1 i q ≠ ⊤ := fun q => by
    rw [hg]
    split <;> split <;> simp only [mul_one, mul_zero, add_zero, zero_add, ← EReal.coe_add] <;> first | exact EReal.coe_ne_top _ | exact EReal.zero_ne_top
  have hin : ∀ q, ∑ k : Fin 256, x i k * gate x r e0 e1 i q * W q k f
      = (a * product x W i q f) * (if q = e0 i then 1 else 0) + (b * product x W i q f) * (if q = e1 i then 1 else 0) := by
    intro q
    have h1 : ∑ k : Fin 256, x i k * gate x r e0 e1 i q * W q k f = gate x r e0 e1 i q * product x W i q f := by
      rw [product, mul_sum_real _ (hn q) (ht q)]
      exact Finset.sum_congr rfl fun k _ => by rw [mul_comm (x i k), mul_assoc]
    rw [h1, hg, EReal.right_distrib_of_nonneg (mul_nonneg ha' (hi _ _)) (mul_nonneg hb' (hi _ _)),
      mul_right_comm, mul_right_comm (b : EReal)]
  rw [Finset.sum_congr rfl fun q _ => hin q, Finset.sum_add_distrib, sum_pick (fun q => a * product x W i q f), sum_pick (fun q => b * product x W i q f),
    mixture, hA, hB]

end Finite

end Cert.Maths

end
-- ==== Proof.Gates.lean ====
/-
  What a device computes of its own before it sends: the probabilities, the gates of its four experts, and the tokens
  scaled by them, each read at an index.
-/
module

public import proofs.«01_k».proof.Proof.Places
public import proofs.«01_k».proof.Proof.Maths
public import Idealize.ShloMosaic.Lib.Pointwise.IndexBridge

@[expose] public section

noncomputable section

namespace Cert.KernelIdeal.Reading

open Cert.KernelIdeal Cert.KernelIdeal.Gen
open Idealize.ShloMosaic

/-- Expert `j` of device `d`. -/
def expertOf (d : Dev nD) (j : Fin 4) : Fin 32 := ⟨j.val + 4 * d.val, by have := d.isLt; simp only [nD] at this; omega⟩
/-- Column `k` of expert `j` among the stacked columns of a device's four experts. -/
def slot (j : Fin 4) (k : Fin 256) : Fin 1024 := ⟨k.val + 256 * j.val, by omega⟩

/-- A comparison for equality, widened and converted, is one or zero. -/
theorem ind_eq {v w : BitVec 32} {p : Prop} [Decidable p] (h : v = w ↔ p) :
    (FloatOps.sitofp (F := Ideal) .f32 (BitVec.setWidth 32 (IntOp.cmpi .eq v w)) : EReal) = if p then 1 else 0 := by
  by_cases hp : p
  · rw [IntOp.cmpi_eq.2 (h.2 hp), if_pos hp]
    simp [FloatOps.sitofp]
  · rw [if_neg hp]
    have e : IntOp.cmpi .eq v w = 0#1 := by
      rcases BitVec.eq_zero_or_eq_one (IntOp.cmpi .eq v w) with e | e
      · exact e
      · exact absurd (h.1 (IntOp.cmpi_eq.1 e)) hp
    rw [e]
    simp [FloatOps.sitofp]

/-- The word of expert `q` equals a table entry. -/
theorem word_eq_iff {t : BitVec 32} {e : Fin 32} (h : t.toNat = e.val) (q : Fin 32) : BitVec.ofNat 32 q.val = t ↔ q = e := by
  rw [← BitVec.toNat_inj, BitVec.toNat_ofNat, h, Nat.mod_eq_of_lt (by omega), Fin.ext_iff]

/-- The word of expert `q` equals the word a device forms for its own expert `j`. -/
theorem word_place_iff (d : Dev nD) (j : Fin 4) (q : Fin 32) :
    BitVec.ofNat 32 q.val = Scalar.addi (Scalar.muli (Run.place d) 4#32) (BitVec.ofNat 32 j.val) ↔ q = expertOf d j := by
  revert d j q; decide +kernel

section
variable (x : Vec Ideal S512x256 .bf16) (r : Vec Ideal S256x32 .bf16)

theorem prob_at (i : Fin 512) (q : Fin 32) :
    k0_pay2 x r (ix2 i q) = Maths.prob (fun i k => x (ix2 i k)) (fun k q => r (ix2 k q)) i q := by
  unfold Maths.prob Maths.weight Maths.best Maths.score
  pointwise [k0_pay2, k0_pay1]

variable (v : Vec Ideal S512x1 .i32) (e : Fin 512 → Fin 32) (h : ∀ i, (v (ix2 i 0)).toNat = (e i).val)
include h

theorem onehot0_at (i : Fin 512) (q : Fin 32) : k0_pay3 (F := Ideal) v (ix2 i q) = if q = e i then 1 else 0 := by
  refine Eq.trans ?_ (ind_eq (word_eq_iff (h i) q))
  pointwise [k0_pay3]

theorem onehot1_at (i : Fin 512) (q : Fin 32) : k0_pay4 (F := Ideal) v (ix2 i q) = if q = e i then 1 else 0 := by
  refine Eq.trans ?_ (ind_eq (word_eq_iff (h i) q))
  pointwise [k0_pay4]

theorem chosen0_at (i : Fin 512) :
    k0_pay5 x r v (ix2 i 0) = Maths.prob (fun i k => x (ix2 i k)) (fun k q => r (ix2 k q)) i (e i) := by
  have s : k0_pay5 x r v (ix2 i 0) = ∑ q, k0_pay2 x r (ix2 i q) * k0_pay3 (F := Ideal) v (ix2 i q) := by
    unfold k0_pay5
    generalize k0_pay2 x r = a
    generalize k0_pay3 (F := Ideal) v = b
    pointwise []
  rw [s]
  simp only [prob_at, onehot0_at v e h]
  exact Maths.sum_pick _ _

theorem chosen1_at (i : Fin 512) :
    ∑ q, k0_pay6 x r v (ix2 i q) = Maths.prob (fun i k => x (ix2 i k)) (fun k q => r (ix2 k q)) i (e i) := by
  have s : ∀ q, k0_pay6 x r v (ix2 i q) = k0_pay2 x r (ix2 i q) * k0_pay4 (F := Ideal) v (ix2 i q) := by
    intro q
    unfold k0_pay6
    generalize k0_pay2 x r = a
    generalize k0_pay4 (F := Ideal) v = b
    pointwise []
  simp only [s, prob_at, onehot1_at v e h]
  exact Maths.sum_pick _ _

end

section
variable (m : (l : Loc nD τ sig) → Buf (Elt Ideal) l) (c : Dev nD) (e0 e1 : Fin 512 → Fin 32)

/-- The tokens and the router's weights a device stages, by coordinates. -/
abbrev X : Fin 512 → Fin 256 → EReal := fun i k => Run.xin m c (ix2 i k)
abbrev R : Fin 256 → Fin 32 → EReal := fun k q => Run.rin m c (ix2 k q)

theorem i0_at (i : Fin 512) : Run.i0 m c (ix2 i 0) = Run.iin m c (ix2 i 0) := by
  unfold Run.i0 Run.icol
  rw [View.readAt_apply]
  refine congrArg (Run.iin m c) (funext fun a => Fin.ext ?_)
  match a with
  | ⟨0, _⟩ => show 0 + 1 * i.val = i.val; omega
  | ⟨1, _⟩ => rfl

theorem i1_at (i : Fin 512) : Run.i1 m c (ix2 i 0) = Run.iin m c (ix2 i 1) := by
  unfold Run.i1 Run.icol
  rw [View.readAt_apply]
  refine congrArg (Run.iin m c) (funext fun a => Fin.ext ?_)
  match a with
  | ⟨0, _⟩ => show 0 + 1 * i.val = i.val; omega
  | ⟨1, _⟩ => rfl

variable (h0 : ∀ i, (Run.iin m c (ix2 i 0)).toNat = (e0 i).val) (h1 : ∀ i, (Run.iin m c (ix2 i 1)).toNat = (e1 i).val)

theorem pay7_at (a b : FVec Ideal S512x32 .f32) (u : FVec Ideal S512x1 .f32) (d : FVec Ideal S512x32 .f32) (i : Fin 512) (q : Fin 32) :
    k0_pay7 a b u d (ix2 i q) = Ideal.div (u (ix2 i 0)) (u (ix2 i 0) + ∑ k, d (ix2 i k)) * a (ix2 i q)
      + Ideal.div (∑ k, d (ix2 i k)) (u (ix2 i 0) + ∑ k, d (ix2 i k)) * b (ix2 i q) := by
  pointwise [k0_pay7]

/-- The gates, as the program forms them. -/
abbrev gates : FVec Ideal S512x32 .f32 := k0_pay7 (Run.v52 m c) (Run.v58 m c) (Run.v61 m c) (Run.v62 m c)

include h0 h1 in
theorem gates_at (i : Fin 512) (q : Fin 32) :
    gates m c (ix2 i q) = Maths.gate (X m c) (R m c) e0 e1 i q := by
  have g0 : ∀ i, (Run.i0 m c (ix2 i 0)).toNat = (e0 i).val := fun i => by rw [i0_at, h0]
  have g1 : ∀ i, (Run.i1 m c (ix2 i 0)).toNat = (e1 i).val := fun i => by rw [i1_at, h1]
  rw [gates, pay7_at, Run.v61, Run.v62, Run.v52, Run.v58, chosen0_at _ _ _ e0 g0, chosen1_at _ _ _ e1 g1, onehot0_at _ e0 g0, onehot1_at _ e1 g1,
    Maths.gate]

theorem v46_at (i : Fin 512) (q : Fin 32) : Run.v46 (ix2 i q) = BitVec.ofNat 32 q.val := by
  pointwise [Run.v46]

theorem v33_at (i : Fin 512) (k : Fin 256) : Run.v33 m c (ix2 i k) = Run.xin m c (ix2 i k) := by
  pointwise [Run.v33, k0_pay1]

/-- A gate taken out of its row by the one column that is expert `j` of device `c`. -/
theorem take_gate (g : FVec Ideal S512x32 .f32) (j : Fin 4) (i : Fin 512) :
    ∑ q : Fin 32, g (ix2 i q) * (FloatOps.sitofp (F := Ideal) .f32 (BitVec.setWidth 32 (IntOp.cmpi .eq (Run.v46 (ix2 i q))
        (Scalar.addi (Scalar.muli (Run.place c) 4#32) (BitVec.ofNat 32 j.val)))) : EReal) = g (ix2 i (expertOf c j)) := by
  simp only [v46_at, ind_eq (word_place_iff c j _)]
  exact Maths.sum_pick (fun q => g (ix2 i q)) _

theorem pay8_at (i : Fin 512) (k : Fin 256) :
    k0_pay8 (Run.place c) (Run.v33 m c) Run.v46 (Run.v52 m c) (Run.v58 m c) (Run.v61 m c) (Run.v62 m c) (ix2 i k)
      = Run.xin m c (ix2 i k) * gates m c (ix2 i (expertOf c 0)) := by
  rw [← take_gate c (gates m c) 0 i, ← v33_at]
  unfold k0_pay8
  generalize Run.v46 = o
  show _ = Run.v33 m c (ix2 i k) * ∑ q, k0_pay7 (Run.v52 m c) (Run.v58 m c) (Run.v61 m c) (Run.v62 m c) (ix2 i q) * _
  generalize k0_pay7 (Run.v52 m c) (Run.v58 m c) (Run.v61 m c) (Run.v62 m c) = g
  pointwise []

theorem pay9_at (i : Fin 512) (k : Fin 256) :
    k0_pay9 (Run.place c) (Run.v33 m c) Run.v46 (Run.v52 m c) (Run.v58 m c) (Run.v61 m c) (Run.v62 m c) (ix2 i k)
      = Run.xin m c (ix2 i k) * gates m c (ix2 i (expertOf c 1)) := by
  rw [← take_gate c (gates m c) 1 i, ← v33_at]
  unfold k0_pay9
  generalize Run.v46 = o
  show _ = Run.v33 m c (ix2 i k) * ∑ q, k0_pay7 (Run.v52 m c) (Run.v58 m c) (Run.v61 m c) (Run.v62 m c) (ix2 i q) * _
  generalize k0_pay7 (Run.v52 m c) (Run.v58 m c) (Run.v61 m c) (Run.v62 m c) = g
  pointwise []

theorem pay10_at (i : Fin 512) (k : Fin 256) :
    k0_pay10 (Run.place c) (Run.v33 m c) Run.v46 (Run.v52 m c) (Run.v58 m c) (Run.v61 m c) (Run.v62 m c) (ix2 i k)
      = Run.xin m c (ix2 i k) * gates m c (ix2 i (expertOf c 2)) := by
  rw [← take_gate c (gates m c) 2 i, ← v33_at]
  unfold k0_pay10
  generalize Run.v46 = o
  show _ = Run.v33 m c (ix2 i k) * ∑ q, k0_pay7 (Run.v52 m c) (Run.v58 m c) (Run.v61 m c) (Run.v62 m c) (ix2 i q) * _
  generalize k0_pay7 (Run.v52 m c) (Run.v58 m c) (Run.v61 m c) (Run.v62 m c) = g
  pointwise []

theorem pay11_at (i : Fin 512) :
    ∑ q, k0_pay11 (Run.place c) Run.v46 (Run.v52 m c) (Run.v58 m c) (Run.v61 m c) (Run.v62 m c) (ix2 i q)
      = gates m c (ix2 i (expertOf c 3)) := by
  rw [← take_gate c (gates m c) 3 i]
  refine Finset.sum_congr rfl fun q _ => ?_
  unfold k0_pay11
  generalize Run.v46 = o
  show _ = k0_pay7 (Run.v52 m c) (Run.v58 m c) (Run.v61 m c) (Run.v62 m c) (ix2 i q) * _
  generalize k0_pay7 (Run.v52 m c) (Run.v58 m c) (Run.v61 m c) (Run.v62 m c) = g
  pointwise []

theorem pay12_at (v : FVec Ideal S512x256 .bf16) (a b d : FVec Ideal S512x256 .f32) (g : FVec Ideal S512x32 .f32) (i : Fin 512) (k : Fin 256) :
    k0_pay12 v a b d g (ix2 i (slot 0 k)) = a (ix2 i k) ∧ k0_pay12 v a b d g (ix2 i (slot 1 k)) = b (ix2 i k)
      ∧ k0_pay12 v a b d g (ix2 i (slot 2 k)) = d (ix2 i k)
      ∧ k0_pay12 v a b d g (ix2 i (slot 3 k)) = v (ix2 i k) * ∑ q, g (ix2 i q) := by
  have e : ∀ q : Fin 1024, k0_pay12 v a b d g (ix2 i q)
      = if h : q.val < 256 then a (ix2 i ⟨q.val, h⟩) else if h : q.val - 256 < 256 then b (ix2 i ⟨q.val - 256, h⟩)
        else if h : q.val - 256 - 256 < 256 then d (ix2 i ⟨q.val - 256 - 256, h⟩)
        else v (ix2 i ⟨q.val - 256 - 256 - 256, by omega⟩) * ∑ k, g (ix2 i k) := by
    intro q
    pointwise [k0_pay12]
  have hk := k.isLt
  have s0 : (slot 0 k).val = k.val := rfl
  have s1 : (slot 1 k).val = k.val + 256 := rfl
  have s2 : (slot 2 k).val = k.val + 512 := rfl
  have s3 : (slot 3 k).val = k.val + 768 := rfl
  refine ⟨?_, ?_, ?_, ?_⟩
  · rw [e, dif_pos (by omega)]
    exact congrArg (fun t => a (ix2 i t)) (Fin.ext s0)
  · rw [e, dif_neg (by omega), dif_pos (by omega)]
    exact congrArg (fun t => b (ix2 i t)) (Fin.ext (by show _ - _ = _; omega))
  · rw [e, dif_neg (by omega), dif_neg (by omega), dif_pos (by omega)]
    exact congrArg (fun t => d (ix2 i t)) (Fin.ext (by show _ - _ - _ = _; omega))
  · rw [e, dif_neg (by omega), dif_neg (by omega), dif_neg (by omega)]
    exact congrArg (fun t => v (ix2 i t) * ∑ q, g (ix2 i q)) (Fin.ext (by show _ - _ - _ - _ = _; omega))

/-- The gated tokens of device `c`: for its expert `j`, the tokens scaled by that expert's gate. -/
theorem xc_at (j : Fin 4) (i : Fin 512) (k : Fin 256) :
    Run.xc m c (ix2 i (slot j k)) = Run.xin m c (ix2 i k) * gates m c (ix2 i (expertOf c j)) := by
  obtain ⟨p0, p1, p2, p3⟩ := pay12_at (Run.v33 m c)
    (k0_pay8 (Run.place c) (Run.v33 m c) Run.v46 (Run.v52 m c) (Run.v58 m c) (Run.v61 m c) (Run.v62 m c))
    (k0_pay9 (Run.place c) (Run.v33 m c) Run.v46 (Run.v52 m c) (Run.v58 m c) (Run.v61 m c) (Run.v62 m c))
    (k0_pay10 (Run.place c) (Run.v33 m c) Run.v46 (Run.v52 m c) (Run.v58 m c) (Run.v61 m c) (Run.v62 m c))
    (k0_pay11 (Run.place c) Run.v46 (Run.v52 m c) (Run.v58 m c) (Run.v61 m c) (Run.v62 m c)) i k
  match j with
  | 0 => exact p0.trans (pay8_at m c i k)
  | 1 => exact p1.trans (pay9_at m c i k)
  | 2 => exact p2.trans (pay10_at m c i k)
  | 3 => exact p3.trans (by rw [pay11_at, v33_at])

end

end Cert.KernelIdeal.Reading

end
-- ==== Proof.KernelValue.lean ====
/-
  The kernel's result, read at an index. A block of the result is the sum, over the eight devices, of the device's gated
  tokens times its four experts' stacked weights: a sum over the thirty-two experts, which is the mixture.
-/
module

public import proofs.«01_k».proof.Proof.Gates

@[expose] public section

noncomputable section

namespace Cert.KernelIdeal.Reading

open Cert.KernelIdeal Cert.KernelIdeal.Gen
open Idealize.ShloMosaic

/-- A sum over the stacked columns is a sum over the experts and over each expert's columns. -/
theorem sum_slots (g : Fin 1024 → EReal) : ∑ t, g t = ∑ j : Fin 4, ∑ k : Fin 256, g (slot j k) := by
  rw [← Fintype.sum_prod_type']
  exact (Fintype.sum_equiv (finProdFinEquiv (m := 4) (n := 256)) (fun p => g (slot p.1 p.2)) g (fun p => rfl)).symm

/-- A sum over the devices and over each device's experts is a sum over all the experts. -/
theorem sum_experts (g : Fin 32 → EReal) : ∑ d : Dev nD, ∑ j : Fin 4, g (expertOf d j) = ∑ q, g q := by
  rw [← Fintype.sum_prod_type']
  exact Fintype.sum_equiv (finProdFinEquiv (m := 8) (n := 4)) (fun p => g (expertOf p.1 p.2)) g (fun p => rfl)

section
variable (m : (l : Loc nD τ sig) → Buf (Elt Ideal) l)

/-- Row `i` of block `b`. -/
def row (b : Dev nD) (i : Fin 64) : Fin 512 := ⟨64 * b.val + i.val, by have := b.isLt; simp only [nD] at this; omega⟩

theorem xblk_at (f : FVec Ideal S512x1024 .bf16) (b : Dev nD) (i : Fin 64) (t : Fin 1024) :
    Run.xblk f b (ix2 i t) = f (ix2 (row b i) t) := by
  unfold Run.xblk
  rw [View.readAt_apply]
  refine congrArg f (funext fun a => Fin.ext ?_)
  have e := k0_off2_eq b
  match a with
  | ⟨0, _⟩ => show k0_off2 b 0 + 1 * i.val = 64 * b.val + i.val; rw [e, Nat.one_mul]; rfl
  | ⟨1, _⟩ => show k0_off2 b 1 + 1 * t.val = t.val; rw [e, Nat.one_mul]; exact Nat.zero_add _

theorem wc_at (d : Dev nD) (j : Fin 4) (k : Fin 256) (f : Fin 512) : Run.wc m d (ix2 (slot j k) f) = Run.ein m d (ix3 j k f) := by
  have e : ∀ q : Fin 1024, Run.wc m d (ix2 q f) = Run.ein m d (ix3 ⟨q.val / 256, by omega⟩ ⟨q.val % 256, by omega⟩ f) := by
    intro q
    unfold Run.wc
    generalize Run.ein m d = w
    pointwise [k0_pay13]
  rw [e]
  have hk := k.isLt
  have s : (slot j k).val = k.val + 256 * j.val := rfl
  exact congrArg₂ (fun a b => Run.ein m d (ix3 a b f)) (Fin.ext (by show _ / _ = _; omega)) (Fin.ext (by show _ % _ = _; omega))

/-- What device `d` adds to entry `(i, f)` of block `b`. -/
def share (d b : Dev nD) (i : Fin 64) (f : Fin 512) : EReal :=
  ∑ j : Fin 4, ∑ k : Fin 256, X m d (row b i) k * gates m d (ix2 (row b i) (expertOf d j)) * Run.ein m d (ix3 j k f)

theorem product_at (d b : Dev nD) (i : Fin 64) (f : Fin 512) :
    ∑ t : Fin 1024, Run.xblk (Run.xc m d) b (ix2 i t) * Run.wc m d (ix2 t f) = share m d b i f := by
  rw [sum_slots, share]
  simp only [xblk_at, xc_at, wc_at]

theorem part_at (d b : Dev nD) (i : Fin 64) (f : Fin 512) : Run.part m d b (ix3 0 i f) = share m d b i f := by
  rw [← product_at]
  unfold Run.part
  generalize Run.wc m d = w
  generalize Run.xblk (Run.xc m d) b = x
  pointwise [k0_pay15]

/-- No places on is the device itself. -/
theorem up_zero (c : Dev nD) : Run.up c 0 = c := by revert c; decide

theorem red_at (c : Dev nD) (i : Fin 64) (f : Fin 512) : Run.red m c (ix2 i f) = ∑ d : Dev nD, share m d c i f := by
  have e : Run.red m c (ix2 i f) = ∑ t : Fin 1024, Run.xblk (Run.xc m c) c (ix2 i t) * Run.wc m c (ix2 t f)
      + Run.part m (Run.up c 1) c (ix3 0 i f) + Run.part m (Run.up c 2) c (ix3 0 i f) + Run.part m (Run.up c 3) c (ix3 0 i f)
      + Run.part m (Run.up c 4) c (ix3 0 i f) + Run.part m (Run.up c 5) c (ix3 0 i f) + Run.part m (Run.up c 6) c (ix3 0 i f)
      + Run.part m (Run.up c 7) c (ix3 0 i f) := by
    unfold Run.red
    generalize Run.wc m c = w
    generalize Run.xblk (Run.xc m c) c = x
    generalize Run.part m (Run.up c 1) c = p1
    generalize Run.part m (Run.up c 2) c = p2
    generalize Run.part m (Run.up c 3) c = p3
    generalize Run.part m (Run.up c 4) c = p4
    generalize Run.part m (Run.up c 5) c = p5
    generalize Run.part m (Run.up c 6) c = p6
    generalize Run.part m (Run.up c 7) c = p7
    pointwise [k0_pay21, k0_pay22, k0_pay23]
  have h0 : Run.up c 0 = c := up_zero c
  rw [e, product_at]
  simp only [part_at]
  rw [← (Run.aroundEquiv c).sum_comp (fun d => share m d c i f), Fin.sum_univ_eight]
  show _ = share m (Run.up c 0) c i f + share m (Run.up c 1) c i f + share m (Run.up c 2) c i f + share m (Run.up c 3) c i f
    + share m (Run.up c 4) c i f + share m (Run.up c 5) c i f + share m (Run.up c 6) c i f + share m (Run.up c 7) c i f
  rw [h0]

/-- The kernel's result: from the same tokens, router weights and table on every device, and the thirty-two experts' weights
    dealt out four to a device, the mixture. -/
theorem OUT_at (x : Fin 512 → Fin 256 → EReal) (r : Fin 256 → Fin 32 → EReal) (W : Fin 32 → Fin 256 → Fin 512 → EReal) (e0 e1 : Fin 512 → Fin 32)
    (hx : ∀ c i k, Run.xin m c (ix2 i k) = x i k) (hr : ∀ c k q, Run.rin m c (ix2 k q) = r k q)
    (h0 : ∀ c i, (Run.iin m c (ix2 i 0)).toNat = (e0 i).val) (h1 : ∀ c i, (Run.iin m c (ix2 i 1)).toNat = (e1 i).val)
    (hW : ∀ d j k f, Run.ein m d (ix3 j k f) = W (expertOf d j) k f)
    (fx : ∀ i k, ∃ v : ℝ, x i k = v) (fr : ∀ k q, ∃ v : ℝ, r k q = v) (i f : Fin 512) :
    Run.OUT m (ix2 i f) = Maths.mixture x r W e0 e1 i f := by
  have hX : ∀ d, X m d = x := fun d => funext fun i => funext fun k => hx d i k
  have hR : ∀ d, R m d = r := fun d => funext fun k => funext fun q => hr d k q
  rw [← Maths.gated_sum fx fr W e0 e1 i f, ← sum_experts]
  have hb : i.val / 64 < nD := by simp only [nD]; omega
  have hrow : row ⟨i.val / 64, hb⟩ ⟨i.val % 64, Nat.mod_lt _ (by decide)⟩ = i := Fin.ext (by show 64 * (i.val / 64) + i.val % 64 = i.val; omega)
  have e : Run.OUT m (ix2 i f) = Run.red m ⟨i.val / 64, hb⟩ (ix2 ⟨i.val % 64, Nat.mod_lt _ (by decide)⟩ f) := by
    rw [ix2_eq_valueIdx ⟨i.val % 64, Nat.mod_lt _ (by decide)⟩ f]
    rfl
  rw [e, red_at]
  refine Finset.sum_congr rfl fun d _ => ?_
  unfold share
  rw [hrow]
  refine Finset.sum_congr rfl fun j _ => Finset.sum_congr rfl fun k _ => ?_
  rw [gates_at m d e0 e1 (h0 d) (h1 d), hX, hR, hW]

end

end Cert.KernelIdeal.Reading

end
-- ==== Proof.Gathers.lean ====
/-
  The reference's two gathers, read at an index whose start lies within the table: one entry of the table of
  probabilities, and one expert's whole block of weights.
-/
module

public import proofs.«01_k».proof.ReferenceIdeal
public import Idealize.ShloMosaic.Lib.Pointwise

@[expose] public section

noncomputable section

namespace Cert.ReferenceIdeal.Reading

open Idealize.ShloMosaic
open Facts₀ Facts

variable [Facts₀]

theorem toInt_small {v : BitVec 32} {n : Nat} (h : v.toNat ≤ n) (hn : n < 2 ^ 31) : min v.toInt.toNat n = v.toNat := by
  have e := BitVec.toInt_eq_toNat_of_lt (x := v) (by omega)
  omega

/-- The gather of probabilities, at token `i`: the row and the column its two start indices name. -/
theorem gather_prob {α : Type} (x : S512x32.Idx → α) (t : IVec S512x2 32) (i p : Fin 512) (q : Fin 32)
    (h0 : (t (ix2 i 0)).toNat = p.val) (h1 : (t (ix2 i 1)).toNat = q.val) :
    Host.gather gather_S512x32_S512x2_S512_n_01_n_n_01_1_11 x t (ix1 i) = x (ix2 p q) := by
  unfold Host.gather
  congr 1
  funext a
  refine Fin.ext ?_
  show GatherDims.start _ (ix1 i) t a + GatherDims.batchCoord _ (ix1 i) a + GatherDims.offCoord _ (ix1 i) a = _
  have hmem : ∀ a : Fin 2, a ∈ gather_S512x32_S512x2_S512_n_01_n_n_01_1_11.startIndexMap := by
    intro a; show a ∈ ([0, 1] : List (Fin 2)); revert a; decide
  rw [GatherDims.batchCoord_eq_zero _ _ _ List.not_mem_nil,
    GatherDims.offCoord_eq_zero _ _ _ (fun h => ((GatherDims.mem_sKept _ _).mp h).1 (hmem a))]
  simp only [Nat.add_zero]
  unfold GatherDims.start
  rw [dif_pos (hmem a)]
  match a with
  | ⟨0, _⟩ =>
    have hsi : gather_S512x32_S512x2_S512_n_01_n_n_01_1_11.siIdx (ix1 i)
        ⟨List.idxOf (0 : Fin 2) gather_S512x32_S512x2_S512_n_01_n_n_01_1_11.startIndexMap, List.idxOf_lt_length_iff.2 (hmem 0)⟩ = ix2 i 0 := by
      funext b; refine Fin.ext ?_
      match b with
      | ⟨0, _⟩ => rfl
      | ⟨1, _⟩ => rfl
    show min (t (gather_S512x32_S512x2_S512_n_01_n_n_01_1_11.siIdx (ix1 i) ⟨List.idxOf (0 : Fin 2) _, _⟩)).toInt.toNat 511 = p.val
    rw [hsi, toInt_small (by omega) (by omega), h0]
  | ⟨1, _⟩ =>
    have hsi : gather_S512x32_S512x2_S512_n_01_n_n_01_1_11.siIdx (ix1 i)
        ⟨List.idxOf (1 : Fin 2) gather_S512x32_S512x2_S512_n_01_n_n_01_1_11.startIndexMap, List.idxOf_lt_length_iff.2 (hmem 1)⟩ = ix2 i 1 := by
      funext b; refine Fin.ext ?_
      match b with
      | ⟨0, _⟩ => rfl
      | ⟨1, _⟩ => rfl
    show min (t (gather_S512x32_S512x2_S512_n_01_n_n_01_1_11.siIdx (ix1 i) ⟨List.idxOf (1 : Fin 2) _, _⟩)).toInt.toNat 31 = q.val
    rw [hsi, toInt_small (by omega) (by omega), h1]

/-- The gather of experts, at token `i`: the block of weights its start index names. -/
theorem gather_expert {α : Type} (x : S32x256x512.Idx → α) (t : IVec S512x1 32) (i : Fin 512) (k : Fin 256) (f : Fin 512) (q : Fin 32)
    (h : (t (ix2 i 0)).toNat = q.val) :
    Host.gather gather_S32x256x512_S512x1_S512x256x512_12_0_n_n_0_1_1256512 x t (ix3 i k f) = x (ix3 q k f) := by
  unfold Host.gather
  congr 1
  funext a
  refine Fin.ext ?_
  show GatherDims.start _ (ix3 i k f) t a + GatherDims.batchCoord _ (ix3 i k f) a + GatherDims.offCoord _ (ix3 i k f) a = _
  rw [GatherDims.batchCoord_eq_zero _ _ _ List.not_mem_nil]
  match a with
  | ⟨0, _⟩ =>
    have hmem : (0 : Fin 3) ∈ gather_S32x256x512_S512x1_S512x256x512_12_0_n_n_0_1_1256512.startIndexMap := List.mem_singleton.mpr rfl
    show GatherDims.start gather_S32x256x512_S512x1_S512x256x512_12_0_n_n_0_1_1256512 (ix3 i k f) t (0 : Fin 3) + 0
      + GatherDims.offCoord gather_S32x256x512_S512x1_S512x256x512_12_0_n_n_0_1_1256512 (ix3 i k f) (0 : Fin 3) = q.val
    rw [GatherDims.offCoord_eq_zero _ _ _ (fun h => ((GatherDims.mem_sKept _ _).mp h).1 (List.mem_singleton.mpr rfl))]
    unfold GatherDims.start
    rw [dif_pos hmem]
    have hsi : gather_S32x256x512_S512x1_S512x256x512_12_0_n_n_0_1_1256512.siIdx (ix3 i k f)
        ⟨List.idxOf (0 : Fin 3) gather_S32x256x512_S512x1_S512x256x512_12_0_n_n_0_1_1256512.startIndexMap, List.idxOf_lt_length_iff.2 hmem⟩ = ix2 i 0 := by
      funext b; refine Fin.ext ?_
      match b with
      | ⟨0, _⟩ => rfl
      | ⟨1, _⟩ => rfl
    show min (t (gather_S32x256x512_S512x1_S512x256x512_12_0_n_n_0_1_1256512.siIdx (ix3 i k f) ⟨List.idxOf (0 : Fin 3) _, _⟩)).toInt.toNat 31 + 0 + 0 = q.val
    rw [hsi, toInt_small (by omega) (by omega), h]
    rfl
  | ⟨1, _⟩ =>
    show GatherDims.start gather_S32x256x512_S512x1_S512x256x512_12_0_n_n_0_1_1256512 (ix3 i k f) t (1 : Fin 3) + 0
      + GatherDims.offCoord gather_S32x256x512_S512x1_S512x256x512_12_0_n_n_0_1_1256512 (ix3 i k f) (1 : Fin 3) = k.val
    unfold GatherDims.start
    rw [dif_neg (by show (1 : Fin 3) ∉ [(0 : Fin 3)]; decide)]
    rw [Nat.zero_add]
    rfl
  | ⟨2, _⟩ =>
    show GatherDims.start gather_S32x256x512_S512x1_S512x256x512_12_0_n_n_0_1_1256512 (ix3 i k f) t (2 : Fin 3) + 0
      + GatherDims.offCoord gather_S32x256x512_S512x1_S512x256x512_12_0_n_n_0_1_1256512 (ix3 i k f) (2 : Fin 3) = f.val
    unfold GatherDims.start
    rw [dif_neg (by show (2 : Fin 3) ∉ [(0 : Fin 3)]; decide)]
    rw [Nat.zero_add]
    rfl

end Cert.ReferenceIdeal.Reading

end
-- ==== Proof.RefValue.lean ====
/-
  The reference's result, read at an index: the mixture of the two experts the routing table names for the token.
-/
module

public import proofs.«01_k».proof.Proof.Gen.ReferenceIdeal.Run
public import proofs.«01_k».proof.Proof.Gathers
public import proofs.«01_k».proof.Proof.Maths

@[expose] public section

noncomputable section

namespace Cert.ReferenceIdeal.Reading

open Idealize.ShloMosaic
open Facts₀ Facts

section Terms
variable [Facts]

/-- The router's scores. -/
def scores (x : FVec Ideal S512x256 .bf16) (r : FVec Ideal S256x32 .bf16) : FVec Ideal S512x32 .f32 :=
  Host.dotGeneral dot_S512x256_S256x32_S512x32_1_0_0_1_n_n none (extf .f32 x bitsLt_bf16_f32) (extf .f32 r bitsLt_bf16_f32)
/-- A row statistic laid along the row. -/
def along (v : FVec Ideal S512 .f32) : FVec Ideal S512x32 .f32 :=
  broadcastInDim S512x32 ![0, 1] bcast_S512x1_S512x32_0_1 (broadcastInDim S512x1 ![0] bcast_S512_S512x1_0 v)
/-- The greatest score of every token. -/
def top (s : FVec Ideal S512x32 .f32) : FVec Ideal S512 .f32 :=
  Host.reduce FloatOps.maximumf s (constant S_ .f32 0xFF800000#32) reducesTo_S512x32_S512_d1 h_S_
/-- The exponentials. -/
def weights (s : FVec Ideal S512x32 .f32) : FVec Ideal S512x32 .f32 := Host.exp (subf s (along (top s)))
/-- Their row sums. -/
def total (e : FVec Ideal S512x32 .f32) : FVec Ideal S512 .f32 :=
  Host.reduceAdd e (constant S_ .f32 0x00000000#32) reducesTo_S512x32_S512_d1 h_S_
/-- The probabilities. -/
def probs (x : FVec Ideal S512x256 .bf16) (r : FVec Ideal S256x32 .bf16) : FVec Ideal S512x32 .f32 :=
  Host.divf (weights (scores x r)) (along (total (weights (scores x r))))

/-- A column of start indices: a negative entry counts from the end of the `n` rows. -/
def wrap (n : BitVec 32) (v : IVec S512 32) : IVec S512x1 32 :=
  broadcastInDim S512x1 ![0] bcast_S512_S512x1_0
    (select (cmpi .slt v (broadcastInDim S512 ![] bcast_S_S512 (constantI S_ 32 0#32))) (addi v (broadcastInDim S512 ![] bcast_S_S512 (constantI S_ 32 n))) v)
/-- The first column of the routing table. -/
def first (t : IVec S512x2 32) : IVec S512 32 := shapeCast _ (extractStridedSlice S512x1 ![0, 0] t slices_S512x2_S512x1_0_0) shapeCasts_S512x1_S512
/-- The second column of the routing table. -/
def second (t : IVec S512x2 32) : IVec S512 32 := shapeCast _ (extractStridedSlice S512x1 ![0, 1] t slices_S512x2_S512x1_0_1) shapeCasts_S512x1_S512
/-- Rows and columns of the probabilities to gather. -/
def places (v : IVec S512 32) : IVec S512x2 32 :=
  concatenate S512x2 1 [⟨S512x1, wrap 512#32 (iotaInDim S512 32 0)⟩, ⟨S512x1, wrap 32#32 v⟩] concatenates_S512x1_S512x1_S512x2_d1
/-- The probabilities of the experts a column of the table names. -/
def chosen (p : FVec Ideal S512x32 .f32) (v : IVec S512 32) : FVec Ideal S512 .f32 :=
  Host.gather gather_S512x32_S512x2_S512_n_01_n_n_01_1_11 p (places v)
/-- The tokens' products with the experts a column of the table names. -/
def products (x : FVec Ideal S512x256 .bf16) (w : FVec Ideal S32x256x512 .bf16) (v : IVec S512 32) : FVec Ideal S512x512 .f32 :=
  Host.dotGeneral dot_S512x256_S512x256x512_S512x512_1_1_n_2_0_0 none (extf .f32 x bitsLt_bf16_f32)
    (Host.gather gather_S32x256x512_S512x1_S512x256x512_12_0_n_n_0_1_1256512 (extf .f32 w bitsLt_bf16_f32) (wrap 32#32 v))
/-- A share laid along the features. -/
def spread (v : FVec Ideal S512 .f32) : FVec Ideal S512x512 .f32 :=
  broadcastInDim S512x512 ![0, 1] bcast_S512x1_S512x512_0_1 (broadcastInDim S512x1 ![0] bcast_S512_S512x1_0 v)
/-- The whole reference. -/
def result (x : FVec Ideal S512x256 .bf16) (r : FVec Ideal S256x32 .bf16) (t : IVec S512x2 32) (w : FVec Ideal S32x256x512 .bf16) : FVec Ideal S512x512 .bf16 :=
  truncf .bf16
    (addf (mulf (spread (Host.divf (chosen (probs x r) (first t)) (addf (chosen (probs x r) (first t)) (chosen (probs x r) (second t))))) (products x w (first t)))
      (mulf (spread (Host.divf (chosen (probs x r) (second t)) (addf (chosen (probs x r) (first t)) (chosen (probs x r) (second t))))) (products x w (second t))))
    bitsLt_bf16_f32

variable (x : FVec Ideal S512x256 .bf16) (r : FVec Ideal S256x32 .bf16) (t : IVec S512x2 32) (w : FVec Ideal S32x256x512 .bf16)

theorem scores_at (i : Fin 512) (q : Fin 32) :
    scores x r (ix2 i q) = Maths.score (fun i k => x (ix2 i k)) (fun k q => r (ix2 k q)) i q := by
  unfold Maths.score
  pointwise [scores]

theorem along_at (v : FVec Ideal S512 .f32) (i : Fin 512) (q : Fin 32) : along v (ix2 i q) = v (ix1 i) := by
  pointwise [along]

theorem spread_at (v : FVec Ideal S512 .f32) (i : Fin 512) (q : Fin 512) : spread v (ix2 i q) = v (ix1 i) := by
  pointwise [spread]

theorem top_at (s : FVec Ideal S512x32 .f32) (i : Fin 512) :
    top s (ix1 i) = Finset.fold max (Ideal.ofBits .f32 0xFF800000#32) (fun q => s (ix2 i q)) Finset.univ := by
  pointwise [top]

theorem total_at (s : FVec Ideal S512x32 .f32) (i : Fin 512) : total s (ix1 i) = ∑ q, s (ix2 i q) := by
  pointwise [total]

theorem weights_at (s : FVec Ideal S512x32 .f32) (i : Fin 512) (q : Fin 32) :
    weights s (ix2 i q) = Ideal.exp (s (ix2 i q) - along (top s) (ix2 i q)) := by
  pointwise [weights]

theorem probs_at (i : Fin 512) (q : Fin 32) :
    probs x r (ix2 i q) = Maths.prob (fun i k => x (ix2 i k)) (fun k q => r (ix2 k q)) i q := by
  have h : ∀ q, weights (scores x r) (ix2 i q) = Maths.weight (fun i k => x (ix2 i k)) (fun k q => r (ix2 k q)) i q := fun q => by
    rw [weights_at, along_at, top_at, scores_at, Maths.weight, Maths.best]
    simp only [scores_at]
  have e : probs x r (ix2 i q) = Ideal.div (weights (scores x r) (ix2 i q)) (along (total (weights (scores x r))) (ix2 i q)) := by
    pointwise [probs]
  rw [e, along_at, total_at, Maths.prob]
  simp only [h]

theorem wrap_at (n : BitVec 32) (v : IVec S512 32) (i : Fin 512) (h : (v (ix1 i)).toNat < 2 ^ 31) : wrap n v (ix2 i 0) = v (ix1 i) := by
  have e : wrap n v (ix2 i 0) = Scalar.select (IntOp.cmpi .slt (v (ix1 i)) 0#32) (IntOp.addi (v (ix1 i)) n) (v (ix1 i)) := by
    pointwise [wrap]
  have hi := BitVec.toInt_eq_toNat_of_lt (x := v (ix1 i)) (by omega)
  have hc : ¬ IntOp.cmpi .slt (v (ix1 i)) 0#32 = 1 := by
    refine fun h => absurd (IntOp.cmpi_slt.1 h) ?_; rw [hi]; simp
  rw [e, Scalar.select, if_neg hc]

theorem first_at (i : Fin 512) : first t (ix1 i) = t (ix2 i 0) := by pointwise [first]
theorem second_at (i : Fin 512) : second t (ix1 i) = t (ix2 i 1) := by pointwise [second]

theorem places_at0 (v : IVec S512 32) (i : Fin 512) : places v (ix2 i 0) = wrap 512#32 (iotaInDim S512 32 0) (ix2 i 0) := by pointwise [places]
theorem places_at1 (v : IVec S512 32) (i : Fin 512) : places v (ix2 i 1) = wrap 32#32 v (ix2 i 0) := by pointwise [places]
theorem iota_at (i : Fin 512) : iotaInDim S512 32 0 (ix1 i) = BitVec.ofNat 32 i.val := by pointwise []

theorem chosen_at (p : FVec Ideal S512x32 .f32) (v : IVec S512 32) (i : Fin 512) (q : Fin 32) (h : (v (ix1 i)).toNat = q.val) :
    chosen p v (ix1 i) = p (ix2 i q) := by
  refine gather_prob p (places v) i i q ?_ ?_
  · have e : (iotaInDim S512 32 0 (ix1 i)).toNat = i.val := by rw [iota_at, BitVec.toNat_ofNat]; omega
    rw [places_at0, wrap_at _ _ _ (by omega), e]
  · rw [places_at1, wrap_at _ _ _ (by omega), h]

theorem products_at (v : IVec S512 32) (i f : Fin 512) (q : Fin 32) (h : (v (ix1 i)).toNat = q.val) :
    products x w v (ix2 i f) = Maths.product (fun i k => x (ix2 i k)) (fun q k f => w (ix3 q k f)) i q f := by
  have hg : ∀ k, Host.gather gather_S32x256x512_S512x1_S512x256x512_12_0_n_n_0_1_1256512 (extf .f32 w bitsLt_bf16_f32) (wrap 32#32 v) (ix3 i k f) = w (ix3 q k f) := by
    intro k
    rw [gather_expert _ _ i k f q (by rw [wrap_at _ _ _ (by omega), h])]
    pointwise []
  have e : products x w v (ix2 i f) = ∑ k : Fin 256, x (ix2 i k)
      * Host.gather gather_S32x256x512_S512x1_S512x256x512_12_0_n_n_0_1_1256512 (extf .f32 w bitsLt_bf16_f32) (wrap 32#32 v) (ix3 i k f) := by
    unfold products
    generalize Host.gather gather_S32x256x512_S512x1_S512x256x512_12_0_n_n_0_1_1256512 (extf .f32 w bitsLt_bf16_f32) (wrap 32#32 v) = g
    pointwise []
  rw [e, Maths.product]
  simp only [hg]

/-- The reference's result at token `i` and feature `f`. -/
theorem result_at (e0 e1 : Fin 512 → Fin 32) (h0 : ∀ i, (t (ix2 i 0)).toNat = (e0 i).val) (h1 : ∀ i, (t (ix2 i 1)).toNat = (e1 i).val) (i f : Fin 512) :
    result x r t w (ix2 i f)
      = Maths.mixture (fun i k => x (ix2 i k)) (fun k q => r (ix2 k q)) (fun q k f => w (ix3 q k f)) e0 e1 i f := by
  have c0 : chosen (probs x r) (first t) (ix1 i) = Maths.prob (fun i k => x (ix2 i k)) (fun k q => r (ix2 k q)) i (e0 i) := by
    rw [chosen_at _ _ i (e0 i) (by rw [first_at, h0]), probs_at]
  have c1 : chosen (probs x r) (second t) (ix1 i) = Maths.prob (fun i k => x (ix2 i k)) (fun k q => r (ix2 k q)) i (e1 i) := by
    rw [chosen_at _ _ i (e1 i) (by rw [second_at, h1]), probs_at]
  have p0 := products_at x w (first t) i f (e0 i) (by rw [first_at, h0])
  have p1 := products_at x w (second t) i f (e1 i) (by rw [second_at, h1])
  rw [Maths.mixture, ← c0, ← c1, ← p0, ← p1]
  unfold result
  generalize chosen (probs x r) (first t) = a
  generalize chosen (probs x r) (second t) = b
  generalize products x w (first t) = c
  generalize products x w (second t) = d
  pointwise [spread]

end Terms

/-- The run's result is the reference's named terms. -/
theorem res_eq (m : (ℓ : Loc nD τ sig) → Buf (Elt Ideal) ℓ) (c : Dev nD) :
    Value.res_main_v72 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v72 result
  rfl

end Cert.ReferenceIdeal.Reading

end
-- ==== Proof.Value.lean ====
/-
  The value claim: every device's result is the reference's, over the ideal floats.
-/
module

public import proofs.«01_k».proof.Defs
public import proofs.«01_k».proof.Proof.Result
public import proofs.«01_k».proof.Proof.Precond
public import proofs.«01_k».proof.Proof.KernelValue
public import proofs.«01_k».proof.Proof.RefValue
public import proofs.«01_k».proof.Proof.Gen.Pre_routable_KernelIdeal

@[expose] public section

noncomputable section

namespace Cert.Proof

open Idealize.ShloMosaic Idealize.SL.Sem

/-- Expert `j` of device `d` is entry `4 d + j` of the reference's array of experts. -/
theorem block_at (w : (⟨3, ![32, 256, 512]⟩ : Shape).Idx → EReal) (d : Fin 8) (j : Fin 4) (k : Fin 256) (f : Fin 512) :
    Layout.block ⟨3, ![4, 256, 512]⟩ ⟨3, ![32, 256, 512]⟩ 0 8 d w (by decide) (ix3 j k f) = w (ix3 (Cert.KernelIdeal.Reading.expertOf d j) k f) := by
  rw [Layout.block_apply]
  refine congrArg w (funext fun a => Fin.ext ?_)
  rw [Layout.Tiles.idx_val]
  match a with
  | ⟨0, _⟩ => show d.val * 4 + j.val = j.val + 4 * d.val; omega
  | ⟨1, _⟩ => rfl
  | ⟨2, _⟩ => rfl

/-- From memories whose arguments agree and are routable, the kernel's result is the reference's. -/
theorem result_eq (m : (ℓ : Loc Cert.KernelIdeal.nD Cert.KernelIdeal.τ Cert.KernelIdeal.sig) → Buf (Elt Ideal) ℓ)
    (a0 : FVec Ideal Cert.ReferenceIdeal.S512x256 .bf16) (a1 : FVec Ideal Cert.ReferenceIdeal.S256x32 .bf16)
    (a2 : IVec Cert.ReferenceIdeal.S512x2 32) (a3 : FVec Ideal Cert.ReferenceIdeal.S32x256x512 .bf16)
    (hx : ∀ c, Cert.KernelIdeal.Run.xin m c = a0) (hr : ∀ c, Cert.KernelIdeal.Run.rin m c = a1) (ht : ∀ c, Cert.KernelIdeal.Run.iin m c = a2)
    (hw : ∀ c, Cert.KernelIdeal.Run.ein m c = Layout.block ⟨3, ![4, 256, 512]⟩ ⟨3, ![32, 256, 512]⟩ 0 8 c a3)
    (fx : ∀ i, ∃ v : ℝ, a0 i = (v : EReal)) (fr : ∀ i, ∃ v : ℝ, a1 i = (v : EReal)) (ft : ∀ i, (a2 i).toNat < 32) :
    Cert.KernelIdeal.Run.OUT m = Cert.ReferenceIdeal.Reading.result a0 a1 a2 a3 := by
  funext i
  idx_vars i
  rw [Cert.ReferenceIdeal.Reading.result_at a0 a1 a2 a3 (fun i => ⟨_, ft (ix2 i 0)⟩) (fun i => ⟨_, ft (ix2 i 1)⟩) (fun _ => rfl) (fun _ => rfl)]
  exact Cert.KernelIdeal.Reading.OUT_at m _ _ _ (fun i => ⟨_, ft (ix2 i 0)⟩) (fun i => ⟨_, ft (ix2 i 1)⟩)
    (fun c i k => congrFun (hx c) _) (fun c k q => congrFun (hr c) _)
    (fun c i => congrArg BitVec.toNat (congrFun (ht c) _)) (fun c i => congrArg BitVec.toNat (congrFun (ht c) _))
    (fun d j k f => (congrFun (hw d) _).trans (block_at a3 d j k f))
    (fun i k => fx _) (fun k q => fr _) _ _

/-- The value claim. -/
theorem value : Cert.algebraic_KernelIdeal_ReferenceIdeal_pre_routable_KernelIdeal := fun m ρ m' ρ' hp ha => by
  have hf := Cert.Pre_routable_KernelIdeal.routable_iff _ _ _ _ (hp 0)
  rw [(ha 0).1, (ha 0).2.1, (ha 0).2.2.1] at hf
  have e := result_eq m _ _ _ _ (fun c => (Cert.KernelIdeal.Run.xin_eq m c).trans (ha c).1) (fun c => (Cert.KernelIdeal.Run.rin_eq m c).trans (ha c).2.1)
    (fun c => (Cert.KernelIdeal.Run.iin_eq m c).trans (ha c).2.2.1) (fun c => (Cert.KernelIdeal.Run.ein_eq m c).trans (ha c).2.2.2) hf.1 hf.2.1 hf.2.2
  refine ⟨Cert.ReferenceIdeal.Value.res_main_v72 m' 0, ?_, ?_⟩
  · refine (θ_run Cert.KernelIdeal.defs _ _).mono (fun r h c => ⟨?_, (h.1 c).2⟩) (Cert.KernelIdeal.Run.run_main (F := Ideal) m ρ)
    exact (h.1 c).1.trans (e.trans (Cert.ReferenceIdeal.Reading.res_eq m' 0).symm)
  · exact (θ_run Cert.ReferenceIdeal.defs _ _).mono (fun _ h => h 0) (Cert.ReferenceIdeal.Value.run (F := Ideal) m' ρ')

end Cert.Proof

end
-- ==== Proof.lean ====
/-
  The claim, assembled from the frames and the value equation.
-/
module

public import proofs.«01_k».proof.Defs
public import proofs.«01_k».proof.Proof.Gen.ReferenceIdeal.Run
public import proofs.«01_k».proof.Proof.Frames
public import proofs.«01_k».proof.Proof.Value

@[expose] public section

noncomputable section

namespace Cert.Proof

/-- The whole claim. -/
theorem claim : Cert.Claim := ⟨Cert.Kernel.Gen.facts, Cert.KernelIdeal.Gen.facts, Cert.ReferenceIdeal.Gen.facts,
  Cert.Pre_routable_KernelIdeal.Gen.facts, Cert.Pre_routable_ReferenceIdeal.Gen.facts,
  frame_kernel, frame_ideal, frame_ideal_routable, frame_reference, frame_reference_routable, trivial, value⟩

end Cert.Proof

end
